-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x96x224x224 : Shape := ⟨4, ![8, 96, 224, 224]⟩
abbrev S1x96x3x3 : Shape := ⟨4, ![1, 96, 3, 3]⟩
abbrev S1 : Shape := ⟨1, ![1]⟩
abbrev S96x9 : Shape := ⟨2, ![96, 9]⟩
abbrev S9x96 : Shape := ⟨2, ![9, 96]⟩
abbrev S1x1 : Shape := ⟨2, ![1, 1]⟩
abbrev S_ : Shape := ⟨0, ![]⟩
abbrev S2 : Shape := ⟨1, ![2]⟩
abbrev S8x50176 : Shape := ⟨2, ![8, 50176]⟩
abbrev S8x224x224 : Shape := ⟨3, ![8, 224, 224]⟩
abbrev S8x1x1 : Shape := ⟨3, ![8, 1, 1]⟩
abbrev S8x1x2 : Shape := ⟨3, ![8, 1, 2]⟩
abbrev S8x2 : Shape := ⟨2, ![8, 2]⟩
abbrev S8 : Shape := ⟨1, ![8]⟩
abbrev S1x96x224x224 : Shape := ⟨4, ![1, 96, 224, 224]⟩
abbrev S1x224x224 : Shape := ⟨3, ![1, 224, 224]⟩
abbrev S1x1x1 : Shape := ⟨3, ![1, 1, 1]⟩
abbrev S1x1x2 : Shape := ⟨3, ![1, 1, 2]⟩
abbrev S96x224x224 : Shape := ⟨3, ![96, 224, 224]⟩
abbrev S96x50176 : Shape := ⟨2, ![96, 50176]⟩
abbrev S9x50176 : Shape := ⟨2, ![9, 50176]⟩
abbrev S9x224x224 : Shape := ⟨3, ![9, 224, 224]⟩
abbrev S224x224 : Shape := ⟨2, ![224, 224]⟩
abbrev S1x224 : Shape := ⟨2, ![1, 224]⟩
abbrev S224x1 : Shape := ⟨2, ![224, 1]⟩
abbrev S223x224 : Shape := ⟨2, ![223, 224]⟩
abbrev S224x223 : Shape := ⟨2, ![224, 223]⟩
abbrev S1x2 : Shape := ⟨2, ![1, 2]⟩

abbrev nBuf : Space → Nat
  | .hbm => 290
  | .vmem => 12
  | .smem => 0
  | _ => 0

abbrev hbmTy0_0 (i : Nat) : BufTy := match i % 128 with
  | 0 => ⟨S8x96x224x224, .f32⟩
  | 1 => ⟨S1x96x3x3, .f32⟩
  | 2 => ⟨S1, .f32⟩
  | 3 => ⟨S96x9, .f32⟩
  | 4 => ⟨S9x96, .f32⟩
  | 5 => ⟨S1x1, .f32⟩
  | 6 => ⟨S_, .i32⟩
  | 7 => ⟨S_, .i32⟩
  | 8 => ⟨S_, .i32⟩
  | 9 => ⟨S_, .i32⟩
  | 10 => ⟨S1, .i32⟩
  | 11 => ⟨S_, .i32⟩
  | 12 => ⟨S_, .i32⟩
  | 13 => ⟨S_, .i32⟩
  | 14 => ⟨S1, .i32⟩
  | 15 => ⟨S2, .i32⟩
  | 16 => ⟨S_, .f32⟩
  | 17 => ⟨S_, .f32⟩
  | 18 => ⟨S_, .f32⟩
  | 19 => ⟨S1x1, .f32⟩
  | 20 => ⟨S1x1, .f32⟩
  | 21 => ⟨S1, .i32⟩
  | 22 => ⟨S_, .i32⟩
  | 23 => ⟨S1, .i32⟩
  | 24 => ⟨S_, .i32⟩
  | 25 => ⟨S8x50176, .i64⟩
  | 26 => ⟨S8x50176, .i64⟩
  | 27 => ⟨S_, .i64⟩
  | 28 => ⟨S8x50176, .i64⟩
  | 29 => ⟨S8x50176, .i64⟩
  | 30 => ⟨S_, .i64⟩
  | 31 => ⟨S8x50176, .i64⟩
  | 32 => ⟨S8x50176, .i64⟩
  | 33 => ⟨S8x50176, .i64⟩
  | 34 => ⟨S_, .i64⟩
  | 35 => ⟨S8x50176, .i64⟩
  | 36 => ⟨S8x50176, .i64⟩
  | 37 => ⟨S8x50176, .i32⟩
  | 38 => ⟨S8x50176, .i32⟩
  | 39 => ⟨S_, .i32⟩
  | 40 => ⟨S_, .i32⟩
  | 41 => ⟨S_, .i32⟩
  | 42 => ⟨S8x50176, .i32⟩
  | 43 => ⟨S8x50176, .i32⟩
  | 44 => ⟨S8x50176, .i32⟩
  | 45 => ⟨S8x50176, .i32⟩
  | 46 => ⟨S8x50176, .i32⟩
  | 47 => ⟨S_, .i32⟩
  | 48 => ⟨S8x50176, .i32⟩
  | 49 => ⟨S8x50176, .i32⟩
  | 50 => ⟨S_, .i32⟩
  | 51 => ⟨S8x50176, .i32⟩
  | 52 => ⟨S8x50176, .i32⟩
  | 53 => ⟨S8x50176, .i32⟩
  | 54 => ⟨S8x50176, .i32⟩
  | 55 => ⟨S8x50176, .i32⟩
  | 56 => ⟨S_, .i32⟩
  | 57 => ⟨S8x50176, .i32⟩
  | 58 => ⟨S8x50176, .i32⟩
  | 59 => ⟨S_, .i32⟩
  | 60 => ⟨S8x50176, .i32⟩
  | 61 => ⟨S8x50176, .i32⟩
  | 62 => ⟨S8x50176, .i32⟩
  | 63 => ⟨S8x50176, .i32⟩
  | 64 => ⟨S8x50176, .i32⟩
  | 65 => ⟨S_, .i32⟩
  | 66 => ⟨S8x50176, .i32⟩
  | 67 => ⟨S8x50176, .i32⟩
  | 68 => ⟨S_, .i32⟩
  | 69 => ⟨S8x50176, .i32⟩
  | 70 => ⟨S8x50176, .i32⟩
  | 71 => ⟨S8x50176, .i32⟩
  | 72 => ⟨S8x50176, .i32⟩
  | 73 => ⟨S8x50176, .i32⟩
  | 74 => ⟨S_, .i32⟩
  | 75 => ⟨S8x50176, .i32⟩
  | 76 => ⟨S8x50176, .i32⟩
  | 77 => ⟨S_, .i32⟩
  | 78 => ⟨S8x50176, .i32⟩
  | 79 => ⟨S8x50176, .i32⟩
  | 80 => ⟨S8x50176, .i32⟩
  | 81 => ⟨S8x50176, .i32⟩
  | 82 => ⟨S8x50176, .i32⟩
  | 83 => ⟨S8x50176, .i32⟩
  | 84 => ⟨S8x50176, .i32⟩
  | 85 => ⟨S8x50176, .i32⟩
  | 86 => ⟨S_, .i32⟩
  | 87 => ⟨S8x50176, .i32⟩
  | 88 => ⟨S8x50176, .i32⟩
  | 89 => ⟨S8x50176, .i32⟩
  | 90 => ⟨S_, .i32⟩
  | 91 => ⟨S8x50176, .i32⟩
  | 92 => ⟨S8x50176, .i32⟩
  | 93 => ⟨S_, .i32⟩
  | 94 => ⟨S8x50176, .i32⟩
  | 95 => ⟨S8x50176, .i32⟩
  | 96 => ⟨S8x50176, .i32⟩
  | 97 => ⟨S8x50176, .i32⟩
  | 98 => ⟨S8x50176, .i32⟩
  | 99 => ⟨S_, .i32⟩
  | 100 => ⟨S8x50176, .i32⟩
  | 101 => ⟨S8x50176, .i32⟩
  | 102 => ⟨S_, .i32⟩
  | 103 => ⟨S8x50176, .i32⟩
  | 104 => ⟨S8x50176, .i32⟩
  | 105 => ⟨S8x50176, .i32⟩
  | 106 => ⟨S8x50176, .i32⟩
  | 107 => ⟨S8x50176, .i32⟩
  | 108 => ⟨S_, .i32⟩
  | 109 => ⟨S8x50176, .i32⟩
  | 110 => ⟨S8x50176, .i32⟩
  | 111 => ⟨S_, .i32⟩
  | 112 => ⟨S8x50176, .i32⟩
  | 113 => ⟨S8x50176, .i32⟩
  | 114 => ⟨S8x50176, .i32⟩
  | 115 => ⟨S8x50176, .i32⟩
  | 116 => ⟨S8x50176, .i32⟩
  | 117 => ⟨S_, .i32⟩
  | 118 => ⟨S8x50176, .i32⟩
  | 119 => ⟨S8x50176, .i32⟩
  | 120 => ⟨S_, .i32⟩
  | 121 => ⟨S8x50176, .i32⟩
  | 122 => ⟨S8x50176, .i32⟩
  | 123 => ⟨S8x50176, .i32⟩
  | 124 => ⟨S8x50176, .i32⟩
  | 125 => ⟨S8x50176, .i32⟩
  | 126 => ⟨S8x50176, .i32⟩
  | 127 => ⟨S8x50176, .i32⟩
  | _ => ⟨S8x96x224x224, .f32⟩

abbrev hbmTy0_1 (i : Nat) : BufTy := match i % 128 with
  | 0 => ⟨S8x50176, .i32⟩
  | 1 => ⟨S_, .i32⟩
  | 2 => ⟨S8x50176, .i32⟩
  | 3 => ⟨S8x50176, .i32⟩
  | 4 => ⟨S8x50176, .i32⟩
  | 5 => ⟨S_, .i32⟩
  | 6 => ⟨S8x50176, .i32⟩
  | 7 => ⟨S8x50176, .i32⟩
  | 8 => ⟨S_, .i32⟩
  | 9 => ⟨S8x50176, .i32⟩
  | 10 => ⟨S8x50176, .i32⟩
  | 11 => ⟨S8x50176, .i32⟩
  | 12 => ⟨S8x50176, .i32⟩
  | 13 => ⟨S8x50176, .i32⟩
  | 14 => ⟨S_, .i32⟩
  | 15 => ⟨S8x50176, .i32⟩
  | 16 => ⟨S8x50176, .i32⟩
  | 17 => ⟨S_, .i32⟩
  | 18 => ⟨S8x50176, .i32⟩
  | 19 => ⟨S8x50176, .i32⟩
  | 20 => ⟨S8x50176, .i32⟩
  | 21 => ⟨S8x50176, .i32⟩
  | 22 => ⟨S8x50176, .i32⟩
  | 23 => ⟨S_, .i32⟩
  | 24 => ⟨S8x50176, .i32⟩
  | 25 => ⟨S8x50176, .i32⟩
  | 26 => ⟨S_, .i32⟩
  | 27 => ⟨S8x50176, .i32⟩
  | 28 => ⟨S8x50176, .i32⟩
  | 29 => ⟨S8x50176, .i32⟩
  | 30 => ⟨S8x50176, .i32⟩
  | 31 => ⟨S8x50176, .i32⟩
  | 32 => ⟨S_, .i32⟩
  | 33 => ⟨S8x50176, .i32⟩
  | 34 => ⟨S8x50176, .i32⟩
  | 35 => ⟨S_, .i32⟩
  | 36 => ⟨S8x50176, .i32⟩
  | 37 => ⟨S8x50176, .i32⟩
  | 38 => ⟨S8x50176, .i32⟩
  | 39 => ⟨S8x50176, .i32⟩
  | 40 => ⟨S8x50176, .i32⟩
  | 41 => ⟨S8x50176, .i32⟩
  | 42 => ⟨S8x50176, .i32⟩
  | 43 => ⟨S8x50176, .i32⟩
  | 44 => ⟨S_, .i32⟩
  | 45 => ⟨S8x50176, .i32⟩
  | 46 => ⟨S8x50176, .i32⟩
  | 47 => ⟨S8x50176, .i32⟩
  | 48 => ⟨S_, .i32⟩
  | 49 => ⟨S8x50176, .i32⟩
  | 50 => ⟨S8x50176, .i32⟩
  | 51 => ⟨S_, .i32⟩
  | 52 => ⟨S8x50176, .i32⟩
  | 53 => ⟨S8x50176, .i32⟩
  | 54 => ⟨S8x50176, .i32⟩
  | 55 => ⟨S8x50176, .i32⟩
  | 56 => ⟨S8x50176, .i32⟩
  | 57 => ⟨S_, .i32⟩
  | 58 => ⟨S8x50176, .i32⟩
  | 59 => ⟨S8x50176, .i32⟩
  | 60 => ⟨S_, .i32⟩
  | 61 => ⟨S8x50176, .i32⟩
  | 62 => ⟨S8x50176, .i32⟩
  | 63 => ⟨S8x50176, .i32⟩
  | 64 => ⟨S8x50176, .i32⟩
  | 65 => ⟨S8x50176, .i32⟩
  | 66 => ⟨S_, .i32⟩
  | 67 => ⟨S8x50176, .i32⟩
  | 68 => ⟨S8x50176, .i32⟩
  | 69 => ⟨S_, .i32⟩
  | 70 => ⟨S8x50176, .i32⟩
  | 71 => ⟨S8x50176, .i32⟩
  | 72 => ⟨S8x50176, .i32⟩
  | 73 => ⟨S8x50176, .i32⟩
  | 74 => ⟨S8x50176, .i32⟩
  | 75 => ⟨S_, .i32⟩
  | 76 => ⟨S8x50176, .i32⟩
  | 77 => ⟨S8x50176, .i32⟩
  | 78 => ⟨S_, .i32⟩
  | 79 => ⟨S8x50176, .i32⟩
  | 80 => ⟨S8x50176, .i32⟩
  | 81 => ⟨S8x50176, .i32⟩
  | 82 => ⟨S8x50176, .i32⟩
  | 83 => ⟨S8x50176, .i32⟩
  | 84 => ⟨S8x50176, .i32⟩
  | 85 => ⟨S8x50176, .i32⟩
  | 86 => ⟨S8x50176, .i32⟩
  | 87 => ⟨S_, .i32⟩
  | 88 => ⟨S8x50176, .i32⟩
  | 89 => ⟨S8x50176, .i32⟩
  | 90 => ⟨S8x50176, .i32⟩
  | 91 => ⟨S_, .i32⟩
  | 92 => ⟨S8x50176, .i32⟩
  | 93 => ⟨S8x50176, .i32⟩
  | 94 => ⟨S_, .i32⟩
  | 95 => ⟨S8x50176, .i32⟩
  | 96 => ⟨S8x50176, .i32⟩
  | 97 => ⟨S8x50176, .i32⟩
  | 98 => ⟨S8x50176, .i32⟩
  | 99 => ⟨S8x50176, .i32⟩
  | 100 => ⟨S_, .i32⟩
  | 101 => ⟨S8x50176, .i32⟩
  | 102 => ⟨S8x50176, .i32⟩
  | 103 => ⟨S_, .i32⟩
  | 104 => ⟨S8x50176, .i32⟩
  | 105 => ⟨S8x50176, .i32⟩
  | 106 => ⟨S8x50176, .i32⟩
  | 107 => ⟨S8x50176, .i32⟩
  | 108 => ⟨S8x50176, .i32⟩
  | 109 => ⟨S_, .i32⟩
  | 110 => ⟨S8x50176, .i32⟩
  | 111 => ⟨S8x50176, .i32⟩
  | 112 => ⟨S_, .i32⟩
  | 113 => ⟨S8x50176, .i32⟩
  | 114 => ⟨S8x50176, .i32⟩
  | 115 => ⟨S8x50176, .i32⟩
  | 116 => ⟨S8x50176, .i32⟩
  | 117 => ⟨S8x50176, .i32⟩
  | 118 => ⟨S_, .i32⟩
  | 119 => ⟨S8x50176, .i32⟩
  | 120 => ⟨S8x50176, .i32⟩
  | 121 => ⟨S_, .i32⟩
  | 122 => ⟨S8x50176, .i32⟩
  | 123 => ⟨S8x50176, .i32⟩
  | 124 => ⟨S8x50176, .i32⟩
  | 125 => ⟨S8x50176, .i32⟩
  | 126 => ⟨S8x50176, .i32⟩
  | 127 => ⟨S8x50176, .i32⟩
  | _ => ⟨S8x96x224x224, .f32⟩

abbrev hbmTy0_2 (i : Nat) : BufTy := match i % 128 with
  | 0 => ⟨S8x50176, .i32⟩
  | 1 => ⟨S8x50176, .i32⟩
  | 2 => ⟨S_, .i32⟩
  | 3 => ⟨S8x50176, .i32⟩
  | 4 => ⟨S8x50176, .i32⟩
  | 5 => ⟨S8x50176, .i32⟩
  | 6 => ⟨S_, .i32⟩
  | 7 => ⟨S8x50176, .i32⟩
  | 8 => ⟨S8x50176, .i32⟩
  | 9 => ⟨S_, .i32⟩
  | 10 => ⟨S8x50176, .i32⟩
  | 11 => ⟨S8x50176, .i32⟩
  | 12 => ⟨S8x50176, .f32⟩
  | 13 => ⟨S_, .f32⟩
  | 14 => ⟨S8x50176, .f32⟩
  | 15 => ⟨S8x50176, .f32⟩
  | 16 => ⟨S1x1, .f32⟩
  | 17 => ⟨S8x50176, .f32⟩
  | 18 => ⟨S8x50176, .f32⟩
  | 19 => ⟨S8x50176, .f32⟩
  | 20 => ⟨S8x50176, .f32⟩
  | 21 => ⟨S8x50176, .f32⟩
  | 22 => ⟨S8x50176, .f32⟩
  | 23 => ⟨S8x50176, .f32⟩
  | 24 => ⟨S8x50176, .f32⟩
  | 25 => ⟨S8x50176, .f32⟩
  | 26 => ⟨S8x50176, .f32⟩
  | 27 => ⟨S8x224x224, .f32⟩
  | 28 => ⟨S8x224x224, .f32⟩
  | 29 => ⟨S8x1x1, .f32⟩
  | 30 => ⟨S8x1x2, .i32⟩
  | 31 => ⟨S8x2, .i32⟩
  | 32 => ⟨S8, .f32⟩
  | 33 => ⟨S8x50176, .f32⟩
  | _ => ⟨S8x96x224x224, .f32⟩

abbrev hbmTy (i : Nat) : BufTy := match i / 128 with
  | 0 => hbmTy0_0 i
  | 1 => hbmTy0_1 i
  | 2 => hbmTy0_2 i
  | _ => ⟨S8x96x224x224, .f32⟩

abbrev bufTy : (tb : Table) → Fin (tcTables nBuf tb) → BufTy
  | .hbm, ⟨i, _⟩ => hbmTy i
  | .local _ .vmem, ⟨0, _⟩ => ⟨S1x96x224x224, .f32⟩
  | .local _ .vmem, ⟨1, _⟩ => ⟨S1x96x224x224, .f32⟩
  | .local _ .vmem, ⟨2, _⟩ => ⟨S9x96, .f32⟩
  | .local _ .vmem, ⟨3, _⟩ => ⟨S1x1, .f32⟩
  | .local _ .vmem, ⟨4, _⟩ => ⟨S1x224x224, .f32⟩
  | .local _ .vmem, ⟨5, _⟩ => ⟨S1x224x224, .f32⟩
  | .local _ .vmem, ⟨6, _⟩ => ⟨S1x224x224, .f32⟩
  | .local _ .vmem, ⟨7, _⟩ => ⟨S1x224x224, .f32⟩
  | .local _ .vmem, ⟨8, _⟩ => ⟨S1x1x1, .f32⟩
  | .local _ .vmem, ⟨9, _⟩ => ⟨S1x1x1, .f32⟩
  | .local _ .vmem, ⟨10, _⟩ => ⟨S1x1x2, .i32⟩
  | .local _ .vmem, ⟨11, _⟩ => ⟨S1x1x2, .i32⟩
  | _, _ => ⟨S8x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_c : Ref sig .tc := ⟨.hbm, 6, rfl⟩
abbrev main_call0_c_0 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_call0_cst : Ref sig .tc := ⟨.hbm, 16, rfl⟩
abbrev main_call0_call0_cst_0 : Ref sig .tc := ⟨.hbm, 17, rfl⟩
abbrev main_call0_call0_call0_v0 : Ref sig .tc := ⟨.hbm, 18, rfl⟩
abbrev main_call0_call0_call0_v1 : Ref sig .tc := ⟨.hbm, 19, rfl⟩
abbrev main_call0_call0_call0_v2 : Ref sig .tc := ⟨.hbm, 20, rfl⟩
abbrev main_call0_call0_call0_v3 : Ref sig .tc := ⟨.hbm, 21, rfl⟩
abbrev main_call0_call0_call0_v4 : Ref sig .tc := ⟨.hbm, 22, rfl⟩
abbrev main_call0_call0_call0_v5 : Ref sig .tc := ⟨.hbm, 23, rfl⟩
abbrev main_call0_call0_call0_v6 : Ref sig .tc := ⟨.hbm, 24, rfl⟩
abbrev main_call0_call0_call0_v7 : Ref sig .tc := ⟨.hbm, 25, rfl⟩
abbrev main_call0_call0_call0_v8 : Ref sig .tc := ⟨.hbm, 26, rfl⟩
abbrev main_call0_call0_call0_c : Ref sig .tc := ⟨.hbm, 27, rfl⟩
abbrev main_call0_call0_call0_v9 : Ref sig .tc := ⟨.hbm, 28, rfl⟩
abbrev main_call0_call0_call0_v10 : Ref sig .tc := ⟨.hbm, 29, rfl⟩
abbrev main_call0_call0_call0_c_0 : Ref sig .tc := ⟨.hbm, 30, rfl⟩
abbrev main_call0_call0_call0_v11 : Ref sig .tc := ⟨.hbm, 31, rfl⟩
abbrev main_call0_call0_call0_v12 : Ref sig .tc := ⟨.hbm, 32, rfl⟩
abbrev main_call0_call0_call0_v13 : Ref sig .tc := ⟨.hbm, 33, rfl⟩
abbrev main_call0_call0_call0_c_1 : Ref sig .tc := ⟨.hbm, 34, rfl⟩
abbrev main_call0_call0_call0_v14 : Ref sig .tc := ⟨.hbm, 35, rfl⟩
abbrev main_call0_call0_call0_v15 : Ref sig .tc := ⟨.hbm, 36, rfl⟩
abbrev main_call0_call0_call0_v16 : Ref sig .tc := ⟨.hbm, 37, rfl⟩
abbrev main_call0_call0_call0_v17 : Ref sig .tc := ⟨.hbm, 38, rfl⟩
abbrev main_call0_call0_call0_call0_v0 : Ref sig .tc := ⟨.hbm, 39, rfl⟩
abbrev main_call0_call0_call0_call0_c : Ref sig .tc := ⟨.hbm, 40, rfl⟩
abbrev main_call0_call0_call0_call0_v1 : Ref sig .tc := ⟨.hbm, 41, rfl⟩
abbrev main_call0_call0_call0_call0_v2 : Ref sig .tc := ⟨.hbm, 42, rfl⟩
abbrev main_call0_call0_call0_call0_v3 : Ref sig .tc := ⟨.hbm, 43, rfl⟩
abbrev main_call0_call0_call0_call0_v4 : Ref sig .tc := ⟨.hbm, 44, rfl⟩
abbrev main_call0_call0_call0_call0_v5 : Ref sig .tc := ⟨.hbm, 45, rfl⟩
abbrev main_call0_call0_call0_call0_v6 : Ref sig .tc := ⟨.hbm, 46, rfl⟩
abbrev main_call0_call0_call0_call0_c_0 : Ref sig .tc := ⟨.hbm, 47, rfl⟩
abbrev main_call0_call0_call0_call0_v7 : Ref sig .tc := ⟨.hbm, 48, rfl⟩
abbrev main_call0_call0_call0_call0_v8 : Ref sig .tc := ⟨.hbm, 49, rfl⟩
abbrev main_call0_call0_call0_call0_c_1 : Ref sig .tc := ⟨.hbm, 50, rfl⟩
abbrev main_call0_call0_call0_call0_v9 : Ref sig .tc := ⟨.hbm, 51, rfl⟩
abbrev main_call0_call0_call0_call0_v10 : Ref sig .tc := ⟨.hbm, 52, rfl⟩
abbrev main_call0_call0_call0_call0_v11 : Ref sig .tc := ⟨.hbm, 53, rfl⟩
abbrev main_call0_call0_call0_call0_v12 : Ref sig .tc := ⟨.hbm, 54, rfl⟩
abbrev main_call0_call0_call0_call0_v13 : Ref sig .tc := ⟨.hbm, 55, rfl⟩
abbrev main_call0_call0_call0_call0_c_2 : Ref sig .tc := ⟨.hbm, 56, rfl⟩
abbrev main_call0_call0_call0_call0_v14 : Ref sig .tc := ⟨.hbm, 57, rfl⟩
abbrev main_call0_call0_call0_call0_v15 : Ref sig .tc := ⟨.hbm, 58, rfl⟩
abbrev main_call0_call0_call0_call0_c_3 : Ref sig .tc := ⟨.hbm, 59, rfl⟩
abbrev main_call0_call0_call0_call0_v16 : Ref sig .tc := ⟨.hbm, 60, rfl⟩
abbrev main_call0_call0_call0_call0_v17 : Ref sig .tc := ⟨.hbm, 61, rfl⟩
abbrev main_call0_call0_call0_call0_v18 : Ref sig .tc := ⟨.hbm, 62, rfl⟩
abbrev main_call0_call0_call0_call0_v19 : Ref sig .tc := ⟨.hbm, 63, rfl⟩
abbrev main_call0_call0_call0_call0_v20 : Ref sig .tc := ⟨.hbm, 64, rfl⟩
abbrev main_call0_call0_call0_call0_c_4 : Ref sig .tc := ⟨.hbm, 65, rfl⟩
abbrev main_call0_call0_call0_call0_v21 : Ref sig .tc := ⟨.hbm, 66, rfl⟩
abbrev main_call0_call0_call0_call0_v22 : Ref sig .tc := ⟨.hbm, 67, rfl⟩
abbrev main_call0_call0_call0_call0_c_5 : Ref sig .tc := ⟨.hbm, 68, rfl⟩
abbrev main_call0_call0_call0_call0_v23 : Ref sig .tc := ⟨.hbm, 69, rfl⟩
abbrev main_call0_call0_call0_call0_v24 : Ref sig .tc := ⟨.hbm, 70, rfl⟩
abbrev main_call0_call0_call0_call0_v25 : Ref sig .tc := ⟨.hbm, 71, rfl⟩
abbrev main_call0_call0_call0_call0_v26 : Ref sig .tc := ⟨.hbm, 72, rfl⟩
abbrev main_call0_call0_call0_call0_v27 : Ref sig .tc := ⟨.hbm, 73, rfl⟩
abbrev main_call0_call0_call0_call0_c_6 : Ref sig .tc := ⟨.hbm, 74, rfl⟩
abbrev main_call0_call0_call0_call0_v28 : Ref sig .tc := ⟨.hbm, 75, rfl⟩
abbrev main_call0_call0_call0_call0_v29 : Ref sig .tc := ⟨.hbm, 76, rfl⟩
abbrev main_call0_call0_call0_call0_c_7 : Ref sig .tc := ⟨.hbm, 77, rfl⟩
abbrev main_call0_call0_call0_call0_v30 : Ref sig .tc := ⟨.hbm, 78, rfl⟩
abbrev main_call0_call0_call0_call0_v31 : Ref sig .tc := ⟨.hbm, 79, rfl⟩
abbrev main_call0_call0_call0_call0_v32 : Ref sig .tc := ⟨.hbm, 80, rfl⟩
abbrev main_call0_call0_call0_call0_v33 : Ref sig .tc := ⟨.hbm, 81, rfl⟩
abbrev main_call0_call0_call0_call0_v34 : Ref sig .tc := ⟨.hbm, 82, rfl⟩
abbrev main_call0_call0_call0_call0_v35 : Ref sig .tc := ⟨.hbm, 83, rfl⟩
abbrev main_call0_call0_call0_call0_v36 : Ref sig .tc := ⟨.hbm, 84, rfl⟩
abbrev main_call0_call0_call0_call0_v37 : Ref sig .tc := ⟨.hbm, 85, rfl⟩
abbrev main_call0_call0_call0_call0_c_8 : Ref sig .tc := ⟨.hbm, 86, rfl⟩
abbrev main_call0_call0_call0_call0_v38 : Ref sig .tc := ⟨.hbm, 87, rfl⟩
abbrev main_call0_call0_call0_call0_v39 : Ref sig .tc := ⟨.hbm, 88, rfl⟩
abbrev main_call0_call0_call0_call0_v40 : Ref sig .tc := ⟨.hbm, 89, rfl⟩
abbrev main_call0_call0_call0_call0_c_9 : Ref sig .tc := ⟨.hbm, 90, rfl⟩
abbrev main_call0_call0_call0_call0_v41 : Ref sig .tc := ⟨.hbm, 91, rfl⟩
abbrev main_call0_call0_call0_call0_v42 : Ref sig .tc := ⟨.hbm, 92, rfl⟩
abbrev main_call0_call0_call0_call0_c_10 : Ref sig .tc := ⟨.hbm, 93, rfl⟩
abbrev main_call0_call0_call0_call0_v43 : Ref sig .tc := ⟨.hbm, 94, rfl⟩
abbrev main_call0_call0_call0_call0_v44 : Ref sig .tc := ⟨.hbm, 95, rfl⟩
abbrev main_call0_call0_call0_call0_v45 : Ref sig .tc := ⟨.hbm, 96, rfl⟩
abbrev main_call0_call0_call0_call0_v46 : Ref sig .tc := ⟨.hbm, 97, rfl⟩
abbrev main_call0_call0_call0_call0_v47 : Ref sig .tc := ⟨.hbm, 98, rfl⟩
abbrev main_call0_call0_call0_call0_c_11 : Ref sig .tc := ⟨.hbm, 99, rfl⟩
abbrev main_call0_call0_call0_call0_v48 : Ref sig .tc := ⟨.hbm, 100, rfl⟩
abbrev main_call0_call0_call0_call0_v49 : Ref sig .tc := ⟨.hbm, 101, rfl⟩
abbrev main_call0_call0_call0_call0_c_12 : Ref sig .tc := ⟨.hbm, 102, rfl⟩
abbrev main_call0_call0_call0_call0_v50 : Ref sig .tc := ⟨.hbm, 103, rfl⟩
abbrev main_call0_call0_call0_call0_v51 : Ref sig .tc := ⟨.hbm, 104, rfl⟩
abbrev main_call0_call0_call0_call0_v52 : Ref sig .tc := ⟨.hbm, 105, rfl⟩
abbrev main_call0_call0_call0_call0_v53 : Ref sig .tc := ⟨.hbm, 106, rfl⟩
abbrev main_call0_call0_call0_call0_v54 : Ref sig .tc := ⟨.hbm, 107, rfl⟩
abbrev main_call0_call0_call0_call0_c_13 : Ref sig .tc := ⟨.hbm, 108, rfl⟩
abbrev main_call0_call0_call0_call0_v55 : Ref sig .tc := ⟨.hbm, 109, rfl⟩
abbrev main_call0_call0_call0_call0_v56 : Ref sig .tc := ⟨.hbm, 110, rfl⟩
abbrev main_call0_call0_call0_call0_c_14 : Ref sig .tc := ⟨.hbm, 111, rfl⟩
abbrev main_call0_call0_call0_call0_v57 : Ref sig .tc := ⟨.hbm, 112, rfl⟩
abbrev main_call0_call0_call0_call0_v58 : Ref sig .tc := ⟨.hbm, 113, rfl⟩
abbrev main_call0_call0_call0_call0_v59 : Ref sig .tc := ⟨.hbm, 114, rfl⟩
abbrev main_call0_call0_call0_call0_v60 : Ref sig .tc := ⟨.hbm, 115, rfl⟩
abbrev main_call0_call0_call0_call0_v61 : Ref sig .tc := ⟨.hbm, 116, rfl⟩
abbrev main_call0_call0_call0_call0_c_15 : Ref sig .tc := ⟨.hbm, 117, rfl⟩
abbrev main_call0_call0_call0_call0_v62 : Ref sig .tc := ⟨.hbm, 118, rfl⟩
abbrev main_call0_call0_call0_call0_v63 : Ref sig .tc := ⟨.hbm, 119, rfl⟩
abbrev main_call0_call0_call0_call0_c_16 : Ref sig .tc := ⟨.hbm, 120, rfl⟩
abbrev main_call0_call0_call0_call0_v64 : Ref sig .tc := ⟨.hbm, 121, rfl⟩
abbrev main_call0_call0_call0_call0_v65 : Ref sig .tc := ⟨.hbm, 122, rfl⟩
abbrev main_call0_call0_call0_call0_v66 : Ref sig .tc := ⟨.hbm, 123, rfl⟩
abbrev main_call0_call0_call0_call0_v67 : Ref sig .tc := ⟨.hbm, 124, rfl⟩
abbrev main_call0_call0_call0_call0_v68 : Ref sig .tc := ⟨.hbm, 125, rfl⟩
abbrev main_call0_call0_call0_call0_v69 : Ref sig .tc := ⟨.hbm, 126, rfl⟩
abbrev main_call0_call0_call0_call0_v70 : Ref sig .tc := ⟨.hbm, 127, rfl⟩
abbrev main_call0_call0_call0_call0_v71 : Ref sig .tc := ⟨.hbm, 128, rfl⟩
abbrev main_call0_call0_call0_call0_c_17 : Ref sig .tc := ⟨.hbm, 129, rfl⟩
abbrev main_call0_call0_call0_call0_v72 : Ref sig .tc := ⟨.hbm, 130, rfl⟩
abbrev main_call0_call0_call0_call0_v73 : Ref sig .tc := ⟨.hbm, 131, rfl⟩
abbrev main_call0_call0_call0_call0_v74 : Ref sig .tc := ⟨.hbm, 132, rfl⟩
abbrev main_call0_call0_call0_call0_c_18 : Ref sig .tc := ⟨.hbm, 133, rfl⟩
abbrev main_call0_call0_call0_call0_v75 : Ref sig .tc := ⟨.hbm, 134, rfl⟩
abbrev main_call0_call0_call0_call0_v76 : Ref sig .tc := ⟨.hbm, 135, rfl⟩
abbrev main_call0_call0_call0_call0_c_19 : Ref sig .tc := ⟨.hbm, 136, rfl⟩
abbrev main_call0_call0_call0_call0_v77 : Ref sig .tc := ⟨.hbm, 137, rfl⟩
abbrev main_call0_call0_call0_call0_v78 : Ref sig .tc := ⟨.hbm, 138, rfl⟩
abbrev main_call0_call0_call0_call0_v79 : Ref sig .tc := ⟨.hbm, 139, rfl⟩
abbrev main_call0_call0_call0_call0_v80 : Ref sig .tc := ⟨.hbm, 140, rfl⟩
abbrev main_call0_call0_call0_call0_v81 : Ref sig .tc := ⟨.hbm, 141, rfl⟩
abbrev main_call0_call0_call0_call0_c_20 : Ref sig .tc := ⟨.hbm, 142, rfl⟩
abbrev main_call0_call0_call0_call0_v82 : Ref sig .tc := ⟨.hbm, 143, rfl⟩
abbrev main_call0_call0_call0_call0_v83 : Ref sig .tc := ⟨.hbm, 144, rfl⟩
abbrev main_call0_call0_call0_call0_c_21 : Ref sig .tc := ⟨.hbm, 145, rfl⟩
abbrev main_call0_call0_call0_call0_v84 : Ref sig .tc := ⟨.hbm, 146, rfl⟩
abbrev main_call0_call0_call0_call0_v85 : Ref sig .tc := ⟨.hbm, 147, rfl⟩
abbrev main_call0_call0_call0_call0_v86 : Ref sig .tc := ⟨.hbm, 148, rfl⟩
abbrev main_call0_call0_call0_call0_v87 : Ref sig .tc := ⟨.hbm, 149, rfl⟩
abbrev main_call0_call0_call0_call0_v88 : Ref sig .tc := ⟨.hbm, 150, rfl⟩
abbrev main_call0_call0_call0_call0_c_22 : Ref sig .tc := ⟨.hbm, 151, rfl⟩
abbrev main_call0_call0_call0_call0_v89 : Ref sig .tc := ⟨.hbm, 152, rfl⟩
abbrev main_call0_call0_call0_call0_v90 : Ref sig .tc := ⟨.hbm, 153, rfl⟩
abbrev main_call0_call0_call0_call0_c_23 : Ref sig .tc := ⟨.hbm, 154, rfl⟩
abbrev main_call0_call0_call0_call0_v91 : Ref sig .tc := ⟨.hbm, 155, rfl⟩
abbrev main_call0_call0_call0_call0_v92 : Ref sig .tc := ⟨.hbm, 156, rfl⟩
abbrev main_call0_call0_call0_call0_v93 : Ref sig .tc := ⟨.hbm, 157, rfl⟩
abbrev main_call0_call0_call0_call0_v94 : Ref sig .tc := ⟨.hbm, 158, rfl⟩
abbrev main_call0_call0_call0_call0_v95 : Ref sig .tc := ⟨.hbm, 159, rfl⟩
abbrev main_call0_call0_call0_call0_c_24 : Ref sig .tc := ⟨.hbm, 160, rfl⟩
abbrev main_call0_call0_call0_call0_v96 : Ref sig .tc := ⟨.hbm, 161, rfl⟩
abbrev main_call0_call0_call0_call0_v97 : Ref sig .tc := ⟨.hbm, 162, rfl⟩
abbrev main_call0_call0_call0_call0_c_25 : Ref sig .tc := ⟨.hbm, 163, rfl⟩
abbrev main_call0_call0_call0_call0_v98 : Ref sig .tc := ⟨.hbm, 164, rfl⟩
abbrev main_call0_call0_call0_call0_v99 : Ref sig .tc := ⟨.hbm, 165, rfl⟩
abbrev main_call0_call0_call0_call0_v100 : Ref sig .tc := ⟨.hbm, 166, rfl⟩
abbrev main_call0_call0_call0_call0_v101 : Ref sig .tc := ⟨.hbm, 167, rfl⟩
abbrev main_call0_call0_call0_call0_v102 : Ref sig .tc := ⟨.hbm, 168, rfl⟩
abbrev main_call0_call0_call0_call0_v103 : Ref sig .tc := ⟨.hbm, 169, rfl⟩
abbrev main_call0_call0_call0_call0_v104 : Ref sig .tc := ⟨.hbm, 170, rfl⟩
abbrev main_call0_call0_call0_call0_v105 : Ref sig .tc := ⟨.hbm, 171, rfl⟩
abbrev main_call0_call0_call0_call0_c_26 : Ref sig .tc := ⟨.hbm, 172, rfl⟩
abbrev main_call0_call0_call0_call0_v106 : Ref sig .tc := ⟨.hbm, 173, rfl⟩
abbrev main_call0_call0_call0_call0_v107 : Ref sig .tc := ⟨.hbm, 174, rfl⟩
abbrev main_call0_call0_call0_call0_v108 : Ref sig .tc := ⟨.hbm, 175, rfl⟩
abbrev main_call0_call0_call0_call0_c_27 : Ref sig .tc := ⟨.hbm, 176, rfl⟩
abbrev main_call0_call0_call0_call0_v109 : Ref sig .tc := ⟨.hbm, 177, rfl⟩
abbrev main_call0_call0_call0_call0_v110 : Ref sig .tc := ⟨.hbm, 178, rfl⟩
abbrev main_call0_call0_call0_call0_c_28 : Ref sig .tc := ⟨.hbm, 179, rfl⟩
abbrev main_call0_call0_call0_call0_v111 : Ref sig .tc := ⟨.hbm, 180, rfl⟩
abbrev main_call0_call0_call0_call0_v112 : Ref sig .tc := ⟨.hbm, 181, rfl⟩
abbrev main_call0_call0_call0_call0_v113 : Ref sig .tc := ⟨.hbm, 182, rfl⟩
abbrev main_call0_call0_call0_call0_v114 : Ref sig .tc := ⟨.hbm, 183, rfl⟩
abbrev main_call0_call0_call0_call0_v115 : Ref sig .tc := ⟨.hbm, 184, rfl⟩
abbrev main_call0_call0_call0_call0_c_29 : Ref sig .tc := ⟨.hbm, 185, rfl⟩
abbrev main_call0_call0_call0_call0_v116 : Ref sig .tc := ⟨.hbm, 186, rfl⟩
abbrev main_call0_call0_call0_call0_v117 : Ref sig .tc := ⟨.hbm, 187, rfl⟩
abbrev main_call0_call0_call0_call0_c_30 : Ref sig .tc := ⟨.hbm, 188, rfl⟩
abbrev main_call0_call0_call0_call0_v118 : Ref sig .tc := ⟨.hbm, 189, rfl⟩
abbrev main_call0_call0_call0_call0_v119 : Ref sig .tc := ⟨.hbm, 190, rfl⟩
abbrev main_call0_call0_call0_call0_v120 : Ref sig .tc := ⟨.hbm, 191, rfl⟩
abbrev main_call0_call0_call0_call0_v121 : Ref sig .tc := ⟨.hbm, 192, rfl⟩
abbrev main_call0_call0_call0_call0_v122 : Ref sig .tc := ⟨.hbm, 193, rfl⟩
abbrev main_call0_call0_call0_call0_c_31 : Ref sig .tc := ⟨.hbm, 194, rfl⟩
abbrev main_call0_call0_call0_call0_v123 : Ref sig .tc := ⟨.hbm, 195, rfl⟩
abbrev main_call0_call0_call0_call0_v124 : Ref sig .tc := ⟨.hbm, 196, rfl⟩
abbrev main_call0_call0_call0_call0_c_32 : Ref sig .tc := ⟨.hbm, 197, rfl⟩
abbrev main_call0_call0_call0_call0_v125 : Ref sig .tc := ⟨.hbm, 198, rfl⟩
abbrev main_call0_call0_call0_call0_v126 : Ref sig .tc := ⟨.hbm, 199, rfl⟩
abbrev main_call0_call0_call0_call0_v127 : Ref sig .tc := ⟨.hbm, 200, rfl⟩
abbrev main_call0_call0_call0_call0_v128 : Ref sig .tc := ⟨.hbm, 201, rfl⟩
abbrev main_call0_call0_call0_call0_v129 : Ref sig .tc := ⟨.hbm, 202, rfl⟩
abbrev main_call0_call0_call0_call0_c_33 : Ref sig .tc := ⟨.hbm, 203, rfl⟩
abbrev main_call0_call0_call0_call0_v130 : Ref sig .tc := ⟨.hbm, 204, rfl⟩
abbrev main_call0_call0_call0_call0_v131 : Ref sig .tc := ⟨.hbm, 205, rfl⟩
abbrev main_call0_call0_call0_call0_c_34 : Ref sig .tc := ⟨.hbm, 206, rfl⟩
abbrev main_call0_call0_call0_call0_v132 : Ref sig .tc := ⟨.hbm, 207, rfl⟩
abbrev main_call0_call0_call0_call0_v133 : Ref sig .tc := ⟨.hbm, 208, rfl⟩
abbrev main_call0_call0_call0_call0_v134 : Ref sig .tc := ⟨.hbm, 209, rfl⟩
abbrev main_call0_call0_call0_call0_v135 : Ref sig .tc := ⟨.hbm, 210, rfl⟩
abbrev main_call0_call0_call0_call0_v136 : Ref sig .tc := ⟨.hbm, 211, rfl⟩
abbrev main_call0_call0_call0_call0_v137 : Ref sig .tc := ⟨.hbm, 212, rfl⟩
abbrev main_call0_call0_call0_call0_v138 : Ref sig .tc := ⟨.hbm, 213, rfl⟩
abbrev main_call0_call0_call0_call0_v139 : Ref sig .tc := ⟨.hbm, 214, rfl⟩
abbrev main_call0_call0_call0_call0_c_35 : Ref sig .tc := ⟨.hbm, 215, rfl⟩
abbrev main_call0_call0_call0_call0_v140 : Ref sig .tc := ⟨.hbm, 216, rfl⟩
abbrev main_call0_call0_call0_call0_v141 : Ref sig .tc := ⟨.hbm, 217, rfl⟩
abbrev main_call0_call0_call0_call0_v142 : Ref sig .tc := ⟨.hbm, 218, rfl⟩
abbrev main_call0_call0_call0_call0_c_36 : Ref sig .tc := ⟨.hbm, 219, rfl⟩
abbrev main_call0_call0_call0_call0_v143 : Ref sig .tc := ⟨.hbm, 220, rfl⟩
abbrev main_call0_call0_call0_call0_v144 : Ref sig .tc := ⟨.hbm, 221, rfl⟩
abbrev main_call0_call0_call0_call0_c_37 : Ref sig .tc := ⟨.hbm, 222, rfl⟩
abbrev main_call0_call0_call0_call0_v145 : Ref sig .tc := ⟨.hbm, 223, rfl⟩
abbrev main_call0_call0_call0_call0_v146 : Ref sig .tc := ⟨.hbm, 224, rfl⟩
abbrev main_call0_call0_call0_call0_v147 : Ref sig .tc := ⟨.hbm, 225, rfl⟩
abbrev main_call0_call0_call0_call0_v148 : Ref sig .tc := ⟨.hbm, 226, rfl⟩
abbrev main_call0_call0_call0_call0_v149 : Ref sig .tc := ⟨.hbm, 227, rfl⟩
abbrev main_call0_call0_call0_call0_c_38 : Ref sig .tc := ⟨.hbm, 228, rfl⟩
abbrev main_call0_call0_call0_call0_v150 : Ref sig .tc := ⟨.hbm, 229, rfl⟩
abbrev main_call0_call0_call0_call0_v151 : Ref sig .tc := ⟨.hbm, 230, rfl⟩
abbrev main_call0_call0_call0_call0_c_39 : Ref sig .tc := ⟨.hbm, 231, rfl⟩
abbrev main_call0_call0_call0_call0_v152 : Ref sig .tc := ⟨.hbm, 232, rfl⟩
abbrev main_call0_call0_call0_call0_v153 : Ref sig .tc := ⟨.hbm, 233, rfl⟩
abbrev main_call0_call0_call0_call0_v154 : Ref sig .tc := ⟨.hbm, 234, rfl⟩
abbrev main_call0_call0_call0_call0_v155 : Ref sig .tc := ⟨.hbm, 235, rfl⟩
abbrev main_call0_call0_call0_call0_v156 : Ref sig .tc := ⟨.hbm, 236, rfl⟩
abbrev main_call0_call0_call0_call0_c_40 : Ref sig .tc := ⟨.hbm, 237, rfl⟩
abbrev main_call0_call0_call0_call0_v157 : Ref sig .tc := ⟨.hbm, 238, rfl⟩
abbrev main_call0_call0_call0_call0_v158 : Ref sig .tc := ⟨.hbm, 239, rfl⟩
abbrev main_call0_call0_call0_call0_c_41 : Ref sig .tc := ⟨.hbm, 240, rfl⟩
abbrev main_call0_call0_call0_call0_v159 : Ref sig .tc := ⟨.hbm, 241, rfl⟩
abbrev main_call0_call0_call0_call0_v160 : Ref sig .tc := ⟨.hbm, 242, rfl⟩
abbrev main_call0_call0_call0_call0_v161 : Ref sig .tc := ⟨.hbm, 243, rfl⟩
abbrev main_call0_call0_call0_call0_v162 : Ref sig .tc := ⟨.hbm, 244, rfl⟩
abbrev main_call0_call0_call0_call0_v163 : Ref sig .tc := ⟨.hbm, 245, rfl⟩
abbrev main_call0_call0_call0_call0_c_42 : Ref sig .tc := ⟨.hbm, 246, rfl⟩
abbrev main_call0_call0_call0_call0_v164 : Ref sig .tc := ⟨.hbm, 247, rfl⟩
abbrev main_call0_call0_call0_call0_v165 : Ref sig .tc := ⟨.hbm, 248, rfl⟩
abbrev main_call0_call0_call0_call0_c_43 : Ref sig .tc := ⟨.hbm, 249, rfl⟩
abbrev main_call0_call0_call0_call0_v166 : Ref sig .tc := ⟨.hbm, 250, rfl⟩
abbrev main_call0_call0_call0_call0_v167 : Ref sig .tc := ⟨.hbm, 251, rfl⟩
abbrev main_call0_call0_call0_call0_v168 : Ref sig .tc := ⟨.hbm, 252, rfl⟩
abbrev main_call0_call0_call0_call0_v169 : Ref sig .tc := ⟨.hbm, 253, rfl⟩
abbrev main_call0_call0_call0_call0_v170 : Ref sig .tc := ⟨.hbm, 254, rfl⟩
abbrev main_call0_call0_call0_v18_0 : Ref sig .tc := ⟨.hbm, 255, rfl⟩
abbrev main_call0_call0_call0_call0_v172 : Ref sig .tc := ⟨.hbm, 256, rfl⟩
abbrev main_call0_call0_call0_call0_v173 : Ref sig .tc := ⟨.hbm, 257, rfl⟩
abbrev main_call0_call0_call0_call0_c_44 : Ref sig .tc := ⟨.hbm, 258, rfl⟩
abbrev main_call0_call0_call0_call0_v174 : Ref sig .tc := ⟨.hbm, 259, rfl⟩
abbrev main_call0_call0_call0_v18_1 : Ref sig .tc := ⟨.hbm, 260, rfl⟩
abbrev main_call0_call0_call0_v19 : Ref sig .tc := ⟨.hbm, 261, rfl⟩
abbrev main_call0_call0_call0_c_2 : Ref sig .tc := ⟨.hbm, 262, rfl⟩
abbrev main_call0_call0_call0_v20 : Ref sig .tc := ⟨.hbm, 263, rfl⟩
abbrev main_call0_call0_call0_v21 : Ref sig .tc := ⟨.hbm, 264, rfl⟩
abbrev main_call0_call0_call0_c_3 : Ref sig .tc := ⟨.hbm, 265, rfl⟩
abbrev main_call0_call0_call0_v22 : Ref sig .tc := ⟨.hbm, 266, rfl⟩
abbrev main_call0_call0_call0_v23 : Ref sig .tc := ⟨.hbm, 267, rfl⟩
abbrev main_call0_call0_call0_v24 : Ref sig .tc := ⟨.hbm, 268, rfl⟩
abbrev main_call0_call0_call0_cst : Ref sig .tc := ⟨.hbm, 269, rfl⟩
abbrev main_call0_call0_call0_v25 : Ref sig .tc := ⟨.hbm, 270, rfl⟩
abbrev main_call0_call0_call0_v26 : Ref sig .tc := ⟨.hbm, 271, rfl⟩
abbrev main_call0_call0_call0_v27 : Ref sig .tc := ⟨.hbm, 272, rfl⟩
abbrev main_call0_call0_call0_v28 : Ref sig .tc := ⟨.hbm, 273, rfl⟩
abbrev main_call0_call0_call0_v29 : Ref sig .tc := ⟨.hbm, 274, rfl⟩
abbrev main_call0_call0_call0_v30 : Ref sig .tc := ⟨.hbm, 275, rfl⟩
abbrev main_call0_call0_call0_v31 : Ref sig .tc := ⟨.hbm, 276, rfl⟩
abbrev main_call0_call0_call0_v32 : Ref sig .tc := ⟨.hbm, 277, rfl⟩
abbrev main_call0_call0_v0 : Ref sig .tc := ⟨.hbm, 278, rfl⟩
abbrev main_call0_call0_v1 : Ref sig .tc := ⟨.hbm, 279, rfl⟩
abbrev main_call0_call0_v2 : Ref sig .tc := ⟨.hbm, 280, rfl⟩
abbrev main_call0_call0_v3 : Ref sig .tc := ⟨.hbm, 281, rfl⟩
abbrev main_call0_v10 : Ref sig .tc := ⟨.hbm, 282, rfl⟩
abbrev main_call0_v11 : Ref sig .tc := ⟨.hbm, 283, rfl⟩
abbrev main_call0_v12_0 : Ref sig .tc := ⟨.hbm, 284, rfl⟩
abbrev main_call0_v12_1 : Ref sig .tc := ⟨.hbm, 285, rfl⟩
abbrev main_call0_v12_2 : Ref sig .tc := ⟨.hbm, 286, rfl⟩
abbrev main_v0_0 : Ref sig .tc := ⟨.hbm, 287, rfl⟩
abbrev main_v0_1 : Ref sig .tc := ⟨.hbm, 288, rfl⟩
abbrev main_v0_2 : Ref sig .tc := ⟨.hbm, 289, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x96x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x224x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x224x224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x96x224x224 : Shape := ⟨4, ![8, 96, 224, 224]⟩
abbrev S1x96x3x3 : Shape := ⟨4, ![1, 96, 3, 3]⟩
abbrev S1 : Shape := ⟨1, ![1]⟩
abbrev S_ : Shape := ⟨0, ![]⟩
abbrev S8x96x226x226 : Shape := ⟨4, ![8, 96, 226, 226]⟩
abbrev S1x96x1x1 : Shape := ⟨4, ![1, 96, 1, 1]⟩
abbrev S1x96 : Shape := ⟨2, ![1, 96]⟩
abbrev S1x8x224x224 : Shape := ⟨4, ![1, 8, 224, 224]⟩
abbrev S8x1x224x224 : Shape := ⟨4, ![8, 1, 224, 224]⟩
abbrev S1x1x1x1 : Shape := ⟨4, ![1, 1, 1, 1]⟩
abbrev S8x50176 : Shape := ⟨2, ![8, 50176]⟩
abbrev S8 : Shape := ⟨1, ![8]⟩
abbrev S8x1 : Shape := ⟨2, ![8, 1]⟩
abbrev S2 : Shape := ⟨1, ![2]⟩
abbrev S1x1 : Shape := ⟨2, ![1, 1]⟩
abbrev S8x2 : Shape := ⟨2, ![8, 2]⟩

abbrev nBuf : Space → Nat
  | .hbm => 427
  | .vmem => 0
  | .smem => 0
  | _ => 0

abbrev hbmTy0_0 (i : Nat) : BufTy := match i % 128 with
  | 0 => ⟨S8x96x224x224, .f32⟩
  | 1 => ⟨S1x96x3x3, .f32⟩
  | 2 => ⟨S1, .f32⟩
  | 3 => ⟨S_, .i32⟩
  | 4 => ⟨S_, .f32⟩
  | 5 => ⟨S8x96x226x226, .f32⟩
  | 6 => ⟨S8x96x224x224, .f32⟩
  | 7 => ⟨S1x96x1x1, .f32⟩
  | 8 => ⟨S1x96, .f32⟩
  | 9 => ⟨S1x8x224x224, .f32⟩
  | 10 => ⟨S8x1x224x224, .f32⟩
  | 11 => ⟨S_, .f32⟩
  | 12 => ⟨S8x1x224x224, .f32⟩
  | 13 => ⟨S8x1x224x224, .f32⟩
  | 14 => ⟨S8x96x224x224, .f32⟩
  | 15 => ⟨S1x96x1x1, .f32⟩
  | 16 => ⟨S1x96, .f32⟩
  | 17 => ⟨S1x8x224x224, .f32⟩
  | 18 => ⟨S8x1x224x224, .f32⟩
  | 19 => ⟨S8x1x224x224, .f32⟩
  | 20 => ⟨S8x96x224x224, .f32⟩
  | 21 => ⟨S1x96x1x1, .f32⟩
  | 22 => ⟨S1x96, .f32⟩
  | 23 => ⟨S1x8x224x224, .f32⟩
  | 24 => ⟨S8x1x224x224, .f32⟩
  | 25 => ⟨S8x1x224x224, .f32⟩
  | 26 => ⟨S8x96x224x224, .f32⟩
  | 27 => ⟨S1x96x1x1, .f32⟩
  | 28 => ⟨S1x96, .f32⟩
  | 29 => ⟨S1x8x224x224, .f32⟩
  | 30 => ⟨S8x1x224x224, .f32⟩
  | 31 => ⟨S8x1x224x224, .f32⟩
  | 32 => ⟨S8x96x224x224, .f32⟩
  | 33 => ⟨S1x96x1x1, .f32⟩
  | 34 => ⟨S1x96, .f32⟩
  | 35 => ⟨S1x8x224x224, .f32⟩
  | 36 => ⟨S8x1x224x224, .f32⟩
  | 37 => ⟨S8x1x224x224, .f32⟩
  | 38 => ⟨S8x96x224x224, .f32⟩
  | 39 => ⟨S1x96x1x1, .f32⟩
  | 40 => ⟨S1x96, .f32⟩
  | 41 => ⟨S1x8x224x224, .f32⟩
  | 42 => ⟨S8x1x224x224, .f32⟩
  | 43 => ⟨S8x1x224x224, .f32⟩
  | 44 => ⟨S8x96x224x224, .f32⟩
  | 45 => ⟨S1x96x1x1, .f32⟩
  | 46 => ⟨S1x96, .f32⟩
  | 47 => ⟨S1x8x224x224, .f32⟩
  | 48 => ⟨S8x1x224x224, .f32⟩
  | 49 => ⟨S8x1x224x224, .f32⟩
  | 50 => ⟨S8x96x224x224, .f32⟩
  | 51 => ⟨S1x96x1x1, .f32⟩
  | 52 => ⟨S1x96, .f32⟩
  | 53 => ⟨S1x8x224x224, .f32⟩
  | 54 => ⟨S8x1x224x224, .f32⟩
  | 55 => ⟨S8x1x224x224, .f32⟩
  | 56 => ⟨S8x96x224x224, .f32⟩
  | 57 => ⟨S1x96x1x1, .f32⟩
  | 58 => ⟨S1x96, .f32⟩
  | 59 => ⟨S1x8x224x224, .f32⟩
  | 60 => ⟨S8x1x224x224, .f32⟩
  | 61 => ⟨S8x1x224x224, .f32⟩
  | 62 => ⟨S1x1x1x1, .f32⟩
  | 63 => ⟨S8x1x224x224, .f32⟩
  | 64 => ⟨S8x1x224x224, .f32⟩
  | 65 => ⟨S8x50176, .f32⟩
  | 66 => ⟨S_, .f32⟩
  | 67 => ⟨S8, .f32⟩
  | 68 => ⟨S_, .f32⟩
  | 69 => ⟨S8, .f32⟩
  | 70 => ⟨S8, .f32⟩
  | 71 => ⟨S8x1, .f32⟩
  | 72 => ⟨S8x50176, .f32⟩
  | 73 => ⟨S8x50176, .f32⟩
  | 74 => ⟨S8x50176, .f32⟩
  | 75 => ⟨S_, .f32⟩
  | 76 => ⟨S8, .f32⟩
  | 77 => ⟨S8x1, .f32⟩
  | 78 => ⟨S8x1, .f32⟩
  | 79 => ⟨S8x50176, .f32⟩
  | 80 => ⟨S8x50176, .f32⟩
  | 81 => ⟨S8x50176, .f32⟩
  | 82 => ⟨S_, .i32⟩
  | 83 => ⟨S_, .i32⟩
  | 84 => ⟨S_, .i32⟩
  | 85 => ⟨S_, .i32⟩
  | 86 => ⟨S1, .i32⟩
  | 87 => ⟨S_, .i32⟩
  | 88 => ⟨S_, .i32⟩
  | 89 => ⟨S_, .i32⟩
  | 90 => ⟨S1, .i32⟩
  | 91 => ⟨S2, .i32⟩
  | 92 => ⟨S_, .f32⟩
  | 93 => ⟨S_, .f32⟩
  | 94 => ⟨S_, .f32⟩
  | 95 => ⟨S1x1, .f32⟩
  | 96 => ⟨S1x1, .f32⟩
  | 97 => ⟨S1, .i32⟩
  | 98 => ⟨S_, .i32⟩
  | 99 => ⟨S1, .i32⟩
  | 100 => ⟨S_, .i32⟩
  | 101 => ⟨S8x50176, .i64⟩
  | 102 => ⟨S8x50176, .i64⟩
  | 103 => ⟨S_, .i64⟩
  | 104 => ⟨S8x50176, .i64⟩
  | 105 => ⟨S8x50176, .i64⟩
  | 106 => ⟨S_, .i64⟩
  | 107 => ⟨S8x50176, .i64⟩
  | 108 => ⟨S8x50176, .i64⟩
  | 109 => ⟨S8x50176, .i64⟩
  | 110 => ⟨S_, .i64⟩
  | 111 => ⟨S8x50176, .i64⟩
  | 112 => ⟨S8x50176, .i64⟩
  | 113 => ⟨S8x50176, .i32⟩
  | 114 => ⟨S8x50176, .i32⟩
  | 115 => ⟨S_, .i32⟩
  | 116 => ⟨S_, .i32⟩
  | 117 => ⟨S_, .i32⟩
  | 118 => ⟨S8x50176, .i32⟩
  | 119 => ⟨S8x50176, .i32⟩
  | 120 => ⟨S8x50176, .i32⟩
  | 121 => ⟨S8x50176, .i32⟩
  | 122 => ⟨S8x50176, .i32⟩
  | 123 => ⟨S_, .i32⟩
  | 124 => ⟨S8x50176, .i32⟩
  | 125 => ⟨S8x50176, .i32⟩
  | 126 => ⟨S_, .i32⟩
  | 127 => ⟨S8x50176, .i32⟩
  | _ => ⟨S8x96x224x224, .f32⟩

abbrev hbmTy0_1 (i : Nat) : BufTy := match i % 128 with
  | 0 => ⟨S8x50176, .i32⟩
  | 1 => ⟨S8x50176, .i32⟩
  | 2 => ⟨S8x50176, .i32⟩
  | 3 => ⟨S8x50176, .i32⟩
  | 4 => ⟨S_, .i32⟩
  | 5 => ⟨S8x50176, .i32⟩
  | 6 => ⟨S8x50176, .i32⟩
  | 7 => ⟨S_, .i32⟩
  | 8 => ⟨S8x50176, .i32⟩
  | 9 => ⟨S8x50176, .i32⟩
  | 10 => ⟨S8x50176, .i32⟩
  | 11 => ⟨S8x50176, .i32⟩
  | 12 => ⟨S8x50176, .i32⟩
  | 13 => ⟨S_, .i32⟩
  | 14 => ⟨S8x50176, .i32⟩
  | 15 => ⟨S8x50176, .i32⟩
  | 16 => ⟨S_, .i32⟩
  | 17 => ⟨S8x50176, .i32⟩
  | 18 => ⟨S8x50176, .i32⟩
  | 19 => ⟨S8x50176, .i32⟩
  | 20 => ⟨S8x50176, .i32⟩
  | 21 => ⟨S8x50176, .i32⟩
  | 22 => ⟨S_, .i32⟩
  | 23 => ⟨S8x50176, .i32⟩
  | 24 => ⟨S8x50176, .i32⟩
  | 25 => ⟨S_, .i32⟩
  | 26 => ⟨S8x50176, .i32⟩
  | 27 => ⟨S8x50176, .i32⟩
  | 28 => ⟨S8x50176, .i32⟩
  | 29 => ⟨S8x50176, .i32⟩
  | 30 => ⟨S8x50176, .i32⟩
  | 31 => ⟨S8x50176, .i32⟩
  | 32 => ⟨S8x50176, .i32⟩
  | 33 => ⟨S8x50176, .i32⟩
  | 34 => ⟨S_, .i32⟩
  | 35 => ⟨S8x50176, .i32⟩
  | 36 => ⟨S8x50176, .i32⟩
  | 37 => ⟨S8x50176, .i32⟩
  | 38 => ⟨S_, .i32⟩
  | 39 => ⟨S8x50176, .i32⟩
  | 40 => ⟨S8x50176, .i32⟩
  | 41 => ⟨S_, .i32⟩
  | 42 => ⟨S8x50176, .i32⟩
  | 43 => ⟨S8x50176, .i32⟩
  | 44 => ⟨S8x50176, .i32⟩
  | 45 => ⟨S8x50176, .i32⟩
  | 46 => ⟨S8x50176, .i32⟩
  | 47 => ⟨S_, .i32⟩
  | 48 => ⟨S8x50176, .i32⟩
  | 49 => ⟨S8x50176, .i32⟩
  | 50 => ⟨S_, .i32⟩
  | 51 => ⟨S8x50176, .i32⟩
  | 52 => ⟨S8x50176, .i32⟩
  | 53 => ⟨S8x50176, .i32⟩
  | 54 => ⟨S8x50176, .i32⟩
  | 55 => ⟨S8x50176, .i32⟩
  | 56 => ⟨S_, .i32⟩
  | 57 => ⟨S8x50176, .i32⟩
  | 58 => ⟨S8x50176, .i32⟩
  | 59 => ⟨S_, .i32⟩
  | 60 => ⟨S8x50176, .i32⟩
  | 61 => ⟨S8x50176, .i32⟩
  | 62 => ⟨S8x50176, .i32⟩
  | 63 => ⟨S8x50176, .i32⟩
  | 64 => ⟨S8x50176, .i32⟩
  | 65 => ⟨S_, .i32⟩
  | 66 => ⟨S8x50176, .i32⟩
  | 67 => ⟨S8x50176, .i32⟩
  | 68 => ⟨S_, .i32⟩
  | 69 => ⟨S8x50176, .i32⟩
  | 70 => ⟨S8x50176, .i32⟩
  | 71 => ⟨S8x50176, .i32⟩
  | 72 => ⟨S8x50176, .i32⟩
  | 73 => ⟨S8x50176, .i32⟩
  | 74 => ⟨S8x50176, .i32⟩
  | 75 => ⟨S8x50176, .i32⟩
  | 76 => ⟨S8x50176, .i32⟩
  | 77 => ⟨S_, .i32⟩
  | 78 => ⟨S8x50176, .i32⟩
  | 79 => ⟨S8x50176, .i32⟩
  | 80 => ⟨S8x50176, .i32⟩
  | 81 => ⟨S_, .i32⟩
  | 82 => ⟨S8x50176, .i32⟩
  | 83 => ⟨S8x50176, .i32⟩
  | 84 => ⟨S_, .i32⟩
  | 85 => ⟨S8x50176, .i32⟩
  | 86 => ⟨S8x50176, .i32⟩
  | 87 => ⟨S8x50176, .i32⟩
  | 88 => ⟨S8x50176, .i32⟩
  | 89 => ⟨S8x50176, .i32⟩
  | 90 => ⟨S_, .i32⟩
  | 91 => ⟨S8x50176, .i32⟩
  | 92 => ⟨S8x50176, .i32⟩
  | 93 => ⟨S_, .i32⟩
  | 94 => ⟨S8x50176, .i32⟩
  | 95 => ⟨S8x50176, .i32⟩
  | 96 => ⟨S8x50176, .i32⟩
  | 97 => ⟨S8x50176, .i32⟩
  | 98 => ⟨S8x50176, .i32⟩
  | 99 => ⟨S_, .i32⟩
  | 100 => ⟨S8x50176, .i32⟩
  | 101 => ⟨S8x50176, .i32⟩
  | 102 => ⟨S_, .i32⟩
  | 103 => ⟨S8x50176, .i32⟩
  | 104 => ⟨S8x50176, .i32⟩
  | 105 => ⟨S8x50176, .i32⟩
  | 106 => ⟨S8x50176, .i32⟩
  | 107 => ⟨S8x50176, .i32⟩
  | 108 => ⟨S_, .i32⟩
  | 109 => ⟨S8x50176, .i32⟩
  | 110 => ⟨S8x50176, .i32⟩
  | 111 => ⟨S_, .i32⟩
  | 112 => ⟨S8x50176, .i32⟩
  | 113 => ⟨S8x50176, .i32⟩
  | 114 => ⟨S8x50176, .i32⟩
  | 115 => ⟨S8x50176, .i32⟩
  | 116 => ⟨S8x50176, .i32⟩
  | 117 => ⟨S8x50176, .i32⟩
  | 118 => ⟨S8x50176, .i32⟩
  | 119 => ⟨S8x50176, .i32⟩
  | 120 => ⟨S_, .i32⟩
  | 121 => ⟨S8x50176, .i32⟩
  | 122 => ⟨S8x50176, .i32⟩
  | 123 => ⟨S8x50176, .i32⟩
  | 124 => ⟨S_, .i32⟩
  | 125 => ⟨S8x50176, .i32⟩
  | 126 => ⟨S8x50176, .i32⟩
  | 127 => ⟨S_, .i32⟩
  | _ => ⟨S8x96x224x224, .f32⟩

abbrev hbmTy0_2 (i : Nat) : BufTy := match i % 128 with
  | 0 => ⟨S8x50176, .i32⟩
  | 1 => ⟨S8x50176, .i32⟩
  | 2 => ⟨S8x50176, .i32⟩
  | 3 => ⟨S8x50176, .i32⟩
  | 4 => ⟨S8x50176, .i32⟩
  | 5 => ⟨S_, .i32⟩
  | 6 => ⟨S8x50176, .i32⟩
  | 7 => ⟨S8x50176, .i32⟩
  | 8 => ⟨S_, .i32⟩
  | 9 => ⟨S8x50176, .i32⟩
  | 10 => ⟨S8x50176, .i32⟩
  | 11 => ⟨S8x50176, .i32⟩
  | 12 => ⟨S8x50176, .i32⟩
  | 13 => ⟨S8x50176, .i32⟩
  | 14 => ⟨S_, .i32⟩
  | 15 => ⟨S8x50176, .i32⟩
  | 16 => ⟨S8x50176, .i32⟩
  | 17 => ⟨S_, .i32⟩
  | 18 => ⟨S8x50176, .i32⟩
  | 19 => ⟨S8x50176, .i32⟩
  | 20 => ⟨S8x50176, .i32⟩
  | 21 => ⟨S8x50176, .i32⟩
  | 22 => ⟨S8x50176, .i32⟩
  | 23 => ⟨S_, .i32⟩
  | 24 => ⟨S8x50176, .i32⟩
  | 25 => ⟨S8x50176, .i32⟩
  | 26 => ⟨S_, .i32⟩
  | 27 => ⟨S8x50176, .i32⟩
  | 28 => ⟨S8x50176, .i32⟩
  | 29 => ⟨S8x50176, .i32⟩
  | 30 => ⟨S8x50176, .i32⟩
  | 31 => ⟨S8x50176, .i32⟩
  | 32 => ⟨S8x50176, .i32⟩
  | 33 => ⟨S8x50176, .i32⟩
  | 34 => ⟨S8x50176, .i32⟩
  | 35 => ⟨S_, .i32⟩
  | 36 => ⟨S8x50176, .i32⟩
  | 37 => ⟨S8x50176, .i32⟩
  | 38 => ⟨S8x50176, .i32⟩
  | 39 => ⟨S_, .i32⟩
  | 40 => ⟨S8x50176, .i32⟩
  | 41 => ⟨S8x50176, .i32⟩
  | 42 => ⟨S_, .i32⟩
  | 43 => ⟨S8x50176, .i32⟩
  | 44 => ⟨S8x50176, .i32⟩
  | 45 => ⟨S8x50176, .i32⟩
  | 46 => ⟨S8x50176, .i32⟩
  | 47 => ⟨S8x50176, .i32⟩
  | 48 => ⟨S_, .i32⟩
  | 49 => ⟨S8x50176, .i32⟩
  | 50 => ⟨S8x50176, .i32⟩
  | 51 => ⟨S_, .i32⟩
  | 52 => ⟨S8x50176, .i32⟩
  | 53 => ⟨S8x50176, .i32⟩
  | 54 => ⟨S8x50176, .i32⟩
  | 55 => ⟨S8x50176, .i32⟩
  | 56 => ⟨S8x50176, .i32⟩
  | 57 => ⟨S_, .i32⟩
  | 58 => ⟨S8x50176, .i32⟩
  | 59 => ⟨S8x50176, .i32⟩
  | 60 => ⟨S_, .i32⟩
  | 61 => ⟨S8x50176, .i32⟩
  | 62 => ⟨S8x50176, .i32⟩
  | 63 => ⟨S8x50176, .i32⟩
  | 64 => ⟨S8x50176, .i32⟩
  | 65 => ⟨S8x50176, .i32⟩
  | 66 => ⟨S_, .i32⟩
  | 67 => ⟨S8x50176, .i32⟩
  | 68 => ⟨S8x50176, .i32⟩
  | 69 => ⟨S_, .i32⟩
  | 70 => ⟨S8x50176, .i32⟩
  | 71 => ⟨S8x50176, .i32⟩
  | 72 => ⟨S8x50176, .i32⟩
  | 73 => ⟨S8x50176, .i32⟩
  | 74 => ⟨S8x50176, .i32⟩
  | 75 => ⟨S8x50176, .i32⟩
  | 76 => ⟨S8x50176, .i32⟩
  | 77 => ⟨S8x50176, .i32⟩
  | 78 => ⟨S_, .i32⟩
  | 79 => ⟨S8x50176, .i32⟩
  | 80 => ⟨S8x50176, .i32⟩
  | 81 => ⟨S8x50176, .i32⟩
  | 82 => ⟨S_, .i32⟩
  | 83 => ⟨S8x50176, .i32⟩
  | 84 => ⟨S8x50176, .i32⟩
  | 85 => ⟨S_, .i32⟩
  | 86 => ⟨S8x50176, .i32⟩
  | 87 => ⟨S8x50176, .i32⟩
  | 88 => ⟨S8x50176, .f32⟩
  | 89 => ⟨S_, .f32⟩
  | 90 => ⟨S8x50176, .f32⟩
  | 91 => ⟨S8x50176, .f32⟩
  | 92 => ⟨S1x1, .f32⟩
  | 93 => ⟨S8x50176, .f32⟩
  | 94 => ⟨S8x50176, .f32⟩
  | 95 => ⟨S8x50176, .f32⟩
  | 96 => ⟨S8x50176, .f32⟩
  | 97 => ⟨S8x50176, .f32⟩
  | 98 => ⟨S8x50176, .f32⟩
  | 99 => ⟨S8x50176, .f32⟩
  | 100 => ⟨S8x50176, .f32⟩
  | 101 => ⟨S8x50176, .f32⟩
  | 102 => ⟨S8x50176, .f32⟩
  | 103 => ⟨S8x50176, .f32⟩
  | 104 => ⟨S8x50176, .i32⟩
  | 105 => ⟨S_, .f32⟩
  | 106 => ⟨S_, .i32⟩
  | 107 => ⟨S8, .f32⟩
  | 108 => ⟨S8, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S8, .i32⟩
  | 116 => ⟨S8, .i32⟩
  | 117 => ⟨S_, .i32⟩
  | 118 => ⟨S8, .i32⟩
  | 119 => ⟨S8, .i1⟩
  | 120 => ⟨S_, .i32⟩
  | 121 => ⟨S8, .i32⟩
  | 122 => ⟨S8, .i1⟩
  | 123 => ⟨S_, .i32⟩
  | 124 => ⟨S_, .i1⟩
  | 125 => ⟨S8, .i1⟩
  | 126 => ⟨S8, .i1⟩
  | 127 => ⟨S8, .i1⟩
  | _ => ⟨S8x96x224x224, .f32⟩

abbrev hbmTy0_3 (i : Nat) : BufTy := match i % 128 with
  | 0 => ⟨S8, .i32⟩
  | 1 => ⟨S8, .i32⟩
  | 2 => ⟨S8, .i32⟩
  | 3 => ⟨S_, .i32⟩
  | 4 => ⟨S_, .i32⟩
  | 5 => ⟨S8, .i32⟩
  | 6 => ⟨S8, .i32⟩
  | 7 => ⟨S8, .i32⟩
  | 8 => ⟨S_, .i32⟩
  | 9 => ⟨S8, .i32⟩
  | 10 => ⟨S8, .i1⟩
  | 11 => ⟨S8, .i32⟩
  | 12 => ⟨S8, .i32⟩
  | 13 => ⟨S_, .i32⟩
  | 14 => ⟨S8, .i32⟩
  | 15 => ⟨S8, .i1⟩
  | 16 => ⟨S8, .i1⟩
  | 17 => ⟨S_, .i32⟩
  | 18 => ⟨S8, .i32⟩
  | 19 => ⟨S8, .i32⟩
  | 20 => ⟨S8, .i32⟩
  | 21 => ⟨S8x1, .i32⟩
  | 22 => ⟨S8x1, .i32⟩
  | 23 => ⟨S8x2, .i32⟩
  | 24 => ⟨S8, .i32⟩
  | 25 => ⟨S_, .i32⟩
  | 26 => ⟨S8, .i32⟩
  | 27 => ⟨S8, .i1⟩
  | 28 => ⟨S_, .i32⟩
  | 29 => ⟨S8, .i32⟩
  | 30 => ⟨S8, .i32⟩
  | 31 => ⟨S8, .i32⟩
  | 32 => ⟨S_, .i32⟩
  | 33 => ⟨S8, .i32⟩
  | 34 => ⟨S8, .i1⟩
  | 35 => ⟨S_, .i32⟩
  | 36 => ⟨S8, .i32⟩
  | 37 => ⟨S8, .i32⟩
  | 38 => ⟨S8, .i32⟩
  | 39 => ⟨S8x1, .i32⟩
  | 40 => ⟨S8x1, .i32⟩
  | 41 => ⟨S8x2, .i32⟩
  | 42 => ⟨S8, .f32⟩
  | _ => ⟨S8x96x224x224, .f32⟩

abbrev hbmTy (i : Nat) : BufTy := match i / 128 with
  | 0 => hbmTy0_0 i
  | 1 => hbmTy0_1 i
  | 2 => hbmTy0_2 i
  | 3 => hbmTy0_3 i
  | _ => ⟨S8x96x224x224, .f32⟩

abbrev bufTy : (tb : Table) → Fin (tcTables nBuf tb) → BufTy
  | .hbm, ⟨i, _⟩ => hbmTy i
  | _, _ => ⟨S8x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_call1_cst : Ref sig .tc := ⟨.hbm, 66, rfl⟩
abbrev main_call1_v0 : Ref sig .tc := ⟨.hbm, 67, rfl⟩
abbrev main_call1_cst_0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_cst_1 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_v60 : Ref sig .tc := ⟨.hbm, 80, rfl⟩
abbrev main_v61 : Ref sig .tc := ⟨.hbm, 81, rfl⟩
abbrev main_c_0 : Ref sig .tc := ⟨.hbm, 82, rfl⟩
abbrev main_c_1 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_2 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_call2_cst : Ref sig .tc := ⟨.hbm, 92, rfl⟩
abbrev main_call2_cst_0 : Ref sig .tc := ⟨.hbm, 93, rfl⟩
abbrev main_call2_call0_v0 : Ref sig .tc := ⟨.hbm, 94, rfl⟩
abbrev main_call2_call0_v1 : Ref sig .tc := ⟨.hbm, 95, rfl⟩
abbrev main_call2_call0_v2 : Ref sig .tc := ⟨.hbm, 96, rfl⟩
abbrev main_call2_call0_v3 : Ref sig .tc := ⟨.hbm, 97, rfl⟩
abbrev main_call2_call0_v4 : Ref sig .tc := ⟨.hbm, 98, rfl⟩
abbrev main_call2_call0_v5 : Ref sig .tc := ⟨.hbm, 99, rfl⟩
abbrev main_call2_call0_v6 : Ref sig .tc := ⟨.hbm, 100, rfl⟩
abbrev main_call2_call0_v7 : Ref sig .tc := ⟨.hbm, 101, rfl⟩
abbrev main_call2_call0_v8 : Ref sig .tc := ⟨.hbm, 102, rfl⟩
abbrev main_call2_call0_c : Ref sig .tc := ⟨.hbm, 103, rfl⟩
abbrev main_call2_call0_v9 : Ref sig .tc := ⟨.hbm, 104, rfl⟩
abbrev main_call2_call0_v10 : Ref sig .tc := ⟨.hbm, 105, rfl⟩
abbrev main_call2_call0_c_0 : Ref sig .tc := ⟨.hbm, 106, rfl⟩
abbrev main_call2_call0_v11 : Ref sig .tc := ⟨.hbm, 107, rfl⟩
abbrev main_call2_call0_v12 : Ref sig .tc := ⟨.hbm, 108, rfl⟩
abbrev main_call2_call0_v13 : Ref sig .tc := ⟨.hbm, 109, rfl⟩
abbrev main_call2_call0_c_1 : Ref sig .tc := ⟨.hbm, 110, rfl⟩
abbrev main_call2_call0_v14 : Ref sig .tc := ⟨.hbm, 111, rfl⟩
abbrev main_call2_call0_v15 : Ref sig .tc := ⟨.hbm, 112, rfl⟩
abbrev main_call2_call0_v16 : Ref sig .tc := ⟨.hbm, 113, rfl⟩
abbrev main_call2_call0_v17 : Ref sig .tc := ⟨.hbm, 114, rfl⟩
abbrev main_call2_call0_call0_v0 : Ref sig .tc := ⟨.hbm, 115, rfl⟩
abbrev main_call2_call0_call0_c : Ref sig .tc := ⟨.hbm, 116, rfl⟩
abbrev main_call2_call0_call0_v1 : Ref sig .tc := ⟨.hbm, 117, rfl⟩
abbrev main_call2_call0_call0_v2 : Ref sig .tc := ⟨.hbm, 118, rfl⟩
abbrev main_call2_call0_call0_v3 : Ref sig .tc := ⟨.hbm, 119, rfl⟩
abbrev main_call2_call0_call0_v4 : Ref sig .tc := ⟨.hbm, 120, rfl⟩
abbrev main_call2_call0_call0_v5 : Ref sig .tc := ⟨.hbm, 121, rfl⟩
abbrev main_call2_call0_call0_v6 : Ref sig .tc := ⟨.hbm, 122, rfl⟩
abbrev main_call2_call0_call0_c_0 : Ref sig .tc := ⟨.hbm, 123, rfl⟩
abbrev main_call2_call0_call0_v7 : Ref sig .tc := ⟨.hbm, 124, rfl⟩
abbrev main_call2_call0_call0_v8 : Ref sig .tc := ⟨.hbm, 125, rfl⟩
abbrev main_call2_call0_call0_c_1 : Ref sig .tc := ⟨.hbm, 126, rfl⟩
abbrev main_call2_call0_call0_v9 : Ref sig .tc := ⟨.hbm, 127, rfl⟩
abbrev main_call2_call0_call0_v10 : Ref sig .tc := ⟨.hbm, 128, rfl⟩
abbrev main_call2_call0_call0_v11 : Ref sig .tc := ⟨.hbm, 129, rfl⟩
abbrev main_call2_call0_call0_v12 : Ref sig .tc := ⟨.hbm, 130, rfl⟩
abbrev main_call2_call0_call0_v13 : Ref sig .tc := ⟨.hbm, 131, rfl⟩
abbrev main_call2_call0_call0_c_2 : Ref sig .tc := ⟨.hbm, 132, rfl⟩
abbrev main_call2_call0_call0_v14 : Ref sig .tc := ⟨.hbm, 133, rfl⟩
abbrev main_call2_call0_call0_v15 : Ref sig .tc := ⟨.hbm, 134, rfl⟩
abbrev main_call2_call0_call0_c_3 : Ref sig .tc := ⟨.hbm, 135, rfl⟩
abbrev main_call2_call0_call0_v16 : Ref sig .tc := ⟨.hbm, 136, rfl⟩
abbrev main_call2_call0_call0_v17 : Ref sig .tc := ⟨.hbm, 137, rfl⟩
abbrev main_call2_call0_call0_v18 : Ref sig .tc := ⟨.hbm, 138, rfl⟩
abbrev main_call2_call0_call0_v19 : Ref sig .tc := ⟨.hbm, 139, rfl⟩
abbrev main_call2_call0_call0_v20 : Ref sig .tc := ⟨.hbm, 140, rfl⟩
abbrev main_call2_call0_call0_c_4 : Ref sig .tc := ⟨.hbm, 141, rfl⟩
abbrev main_call2_call0_call0_v21 : Ref sig .tc := ⟨.hbm, 142, rfl⟩
abbrev main_call2_call0_call0_v22 : Ref sig .tc := ⟨.hbm, 143, rfl⟩
abbrev main_call2_call0_call0_c_5 : Ref sig .tc := ⟨.hbm, 144, rfl⟩
abbrev main_call2_call0_call0_v23 : Ref sig .tc := ⟨.hbm, 145, rfl⟩
abbrev main_call2_call0_call0_v24 : Ref sig .tc := ⟨.hbm, 146, rfl⟩
abbrev main_call2_call0_call0_v25 : Ref sig .tc := ⟨.hbm, 147, rfl⟩
abbrev main_call2_call0_call0_v26 : Ref sig .tc := ⟨.hbm, 148, rfl⟩
abbrev main_call2_call0_call0_v27 : Ref sig .tc := ⟨.hbm, 149, rfl⟩
abbrev main_call2_call0_call0_c_6 : Ref sig .tc := ⟨.hbm, 150, rfl⟩
abbrev main_call2_call0_call0_v28 : Ref sig .tc := ⟨.hbm, 151, rfl⟩
abbrev main_call2_call0_call0_v29 : Ref sig .tc := ⟨.hbm, 152, rfl⟩
abbrev main_call2_call0_call0_c_7 : Ref sig .tc := ⟨.hbm, 153, rfl⟩
abbrev main_call2_call0_call0_v30 : Ref sig .tc := ⟨.hbm, 154, rfl⟩
abbrev main_call2_call0_call0_v31 : Ref sig .tc := ⟨.hbm, 155, rfl⟩
abbrev main_call2_call0_call0_v32 : Ref sig .tc := ⟨.hbm, 156, rfl⟩
abbrev main_call2_call0_call0_v33 : Ref sig .tc := ⟨.hbm, 157, rfl⟩
abbrev main_call2_call0_call0_v34 : Ref sig .tc := ⟨.hbm, 158, rfl⟩
abbrev main_call2_call0_call0_v35 : Ref sig .tc := ⟨.hbm, 159, rfl⟩
abbrev main_call2_call0_call0_v36 : Ref sig .tc := ⟨.hbm, 160, rfl⟩
abbrev main_call2_call0_call0_v37 : Ref sig .tc := ⟨.hbm, 161, rfl⟩
abbrev main_call2_call0_call0_c_8 : Ref sig .tc := ⟨.hbm, 162, rfl⟩
abbrev main_call2_call0_call0_v38 : Ref sig .tc := ⟨.hbm, 163, rfl⟩
abbrev main_call2_call0_call0_v39 : Ref sig .tc := ⟨.hbm, 164, rfl⟩
abbrev main_call2_call0_call0_v40 : Ref sig .tc := ⟨.hbm, 165, rfl⟩
abbrev main_call2_call0_call0_c_9 : Ref sig .tc := ⟨.hbm, 166, rfl⟩
abbrev main_call2_call0_call0_v41 : Ref sig .tc := ⟨.hbm, 167, rfl⟩
abbrev main_call2_call0_call0_v42 : Ref sig .tc := ⟨.hbm, 168, rfl⟩
abbrev main_call2_call0_call0_c_10 : Ref sig .tc := ⟨.hbm, 169, rfl⟩
abbrev main_call2_call0_call0_v43 : Ref sig .tc := ⟨.hbm, 170, rfl⟩
abbrev main_call2_call0_call0_v44 : Ref sig .tc := ⟨.hbm, 171, rfl⟩
abbrev main_call2_call0_call0_v45 : Ref sig .tc := ⟨.hbm, 172, rfl⟩
abbrev main_call2_call0_call0_v46 : Ref sig .tc := ⟨.hbm, 173, rfl⟩
abbrev main_call2_call0_call0_v47 : Ref sig .tc := ⟨.hbm, 174, rfl⟩
abbrev main_call2_call0_call0_c_11 : Ref sig .tc := ⟨.hbm, 175, rfl⟩
abbrev main_call2_call0_call0_v48 : Ref sig .tc := ⟨.hbm, 176, rfl⟩
abbrev main_call2_call0_call0_v49 : Ref sig .tc := ⟨.hbm, 177, rfl⟩
abbrev main_call2_call0_call0_c_12 : Ref sig .tc := ⟨.hbm, 178, rfl⟩
abbrev main_call2_call0_call0_v50 : Ref sig .tc := ⟨.hbm, 179, rfl⟩
abbrev main_call2_call0_call0_v51 : Ref sig .tc := ⟨.hbm, 180, rfl⟩
abbrev main_call2_call0_call0_v52 : Ref sig .tc := ⟨.hbm, 181, rfl⟩
abbrev main_call2_call0_call0_v53 : Ref sig .tc := ⟨.hbm, 182, rfl⟩
abbrev main_call2_call0_call0_v54 : Ref sig .tc := ⟨.hbm, 183, rfl⟩
abbrev main_call2_call0_call0_c_13 : Ref sig .tc := ⟨.hbm, 184, rfl⟩
abbrev main_call2_call0_call0_v55 : Ref sig .tc := ⟨.hbm, 185, rfl⟩
abbrev main_call2_call0_call0_v56 : Ref sig .tc := ⟨.hbm, 186, rfl⟩
abbrev main_call2_call0_call0_c_14 : Ref sig .tc := ⟨.hbm, 187, rfl⟩
abbrev main_call2_call0_call0_v57 : Ref sig .tc := ⟨.hbm, 188, rfl⟩
abbrev main_call2_call0_call0_v58 : Ref sig .tc := ⟨.hbm, 189, rfl⟩
abbrev main_call2_call0_call0_v59 : Ref sig .tc := ⟨.hbm, 190, rfl⟩
abbrev main_call2_call0_call0_v60 : Ref sig .tc := ⟨.hbm, 191, rfl⟩
abbrev main_call2_call0_call0_v61 : Ref sig .tc := ⟨.hbm, 192, rfl⟩
abbrev main_call2_call0_call0_c_15 : Ref sig .tc := ⟨.hbm, 193, rfl⟩
abbrev main_call2_call0_call0_v62 : Ref sig .tc := ⟨.hbm, 194, rfl⟩
abbrev main_call2_call0_call0_v63 : Ref sig .tc := ⟨.hbm, 195, rfl⟩
abbrev main_call2_call0_call0_c_16 : Ref sig .tc := ⟨.hbm, 196, rfl⟩
abbrev main_call2_call0_call0_v64 : Ref sig .tc := ⟨.hbm, 197, rfl⟩
abbrev main_call2_call0_call0_v65 : Ref sig .tc := ⟨.hbm, 198, rfl⟩
abbrev main_call2_call0_call0_v66 : Ref sig .tc := ⟨.hbm, 199, rfl⟩
abbrev main_call2_call0_call0_v67 : Ref sig .tc := ⟨.hbm, 200, rfl⟩
abbrev main_call2_call0_call0_v68 : Ref sig .tc := ⟨.hbm, 201, rfl⟩
abbrev main_call2_call0_call0_v69 : Ref sig .tc := ⟨.hbm, 202, rfl⟩
abbrev main_call2_call0_call0_v70 : Ref sig .tc := ⟨.hbm, 203, rfl⟩
abbrev main_call2_call0_call0_v71 : Ref sig .tc := ⟨.hbm, 204, rfl⟩
abbrev main_call2_call0_call0_c_17 : Ref sig .tc := ⟨.hbm, 205, rfl⟩
abbrev main_call2_call0_call0_v72 : Ref sig .tc := ⟨.hbm, 206, rfl⟩
abbrev main_call2_call0_call0_v73 : Ref sig .tc := ⟨.hbm, 207, rfl⟩
abbrev main_call2_call0_call0_v74 : Ref sig .tc := ⟨.hbm, 208, rfl⟩
abbrev main_call2_call0_call0_c_18 : Ref sig .tc := ⟨.hbm, 209, rfl⟩
abbrev main_call2_call0_call0_v75 : Ref sig .tc := ⟨.hbm, 210, rfl⟩
abbrev main_call2_call0_call0_v76 : Ref sig .tc := ⟨.hbm, 211, rfl⟩
abbrev main_call2_call0_call0_c_19 : Ref sig .tc := ⟨.hbm, 212, rfl⟩
abbrev main_call2_call0_call0_v77 : Ref sig .tc := ⟨.hbm, 213, rfl⟩
abbrev main_call2_call0_call0_v78 : Ref sig .tc := ⟨.hbm, 214, rfl⟩
abbrev main_call2_call0_call0_v79 : Ref sig .tc := ⟨.hbm, 215, rfl⟩
abbrev main_call2_call0_call0_v80 : Ref sig .tc := ⟨.hbm, 216, rfl⟩
abbrev main_call2_call0_call0_v81 : Ref sig .tc := ⟨.hbm, 217, rfl⟩
abbrev main_call2_call0_call0_c_20 : Ref sig .tc := ⟨.hbm, 218, rfl⟩
abbrev main_call2_call0_call0_v82 : Ref sig .tc := ⟨.hbm, 219, rfl⟩
abbrev main_call2_call0_call0_v83 : Ref sig .tc := ⟨.hbm, 220, rfl⟩
abbrev main_call2_call0_call0_c_21 : Ref sig .tc := ⟨.hbm, 221, rfl⟩
abbrev main_call2_call0_call0_v84 : Ref sig .tc := ⟨.hbm, 222, rfl⟩
abbrev main_call2_call0_call0_v85 : Ref sig .tc := ⟨.hbm, 223, rfl⟩
abbrev main_call2_call0_call0_v86 : Ref sig .tc := ⟨.hbm, 224, rfl⟩
abbrev main_call2_call0_call0_v87 : Ref sig .tc := ⟨.hbm, 225, rfl⟩
abbrev main_call2_call0_call0_v88 : Ref sig .tc := ⟨.hbm, 226, rfl⟩
abbrev main_call2_call0_call0_c_22 : Ref sig .tc := ⟨.hbm, 227, rfl⟩
abbrev main_call2_call0_call0_v89 : Ref sig .tc := ⟨.hbm, 228, rfl⟩
abbrev main_call2_call0_call0_v90 : Ref sig .tc := ⟨.hbm, 229, rfl⟩
abbrev main_call2_call0_call0_c_23 : Ref sig .tc := ⟨.hbm, 230, rfl⟩
abbrev main_call2_call0_call0_v91 : Ref sig .tc := ⟨.hbm, 231, rfl⟩
abbrev main_call2_call0_call0_v92 : Ref sig .tc := ⟨.hbm, 232, rfl⟩
abbrev main_call2_call0_call0_v93 : Ref sig .tc := ⟨.hbm, 233, rfl⟩
abbrev main_call2_call0_call0_v94 : Ref sig .tc := ⟨.hbm, 234, rfl⟩
abbrev main_call2_call0_call0_v95 : Ref sig .tc := ⟨.hbm, 235, rfl⟩
abbrev main_call2_call0_call0_c_24 : Ref sig .tc := ⟨.hbm, 236, rfl⟩
abbrev main_call2_call0_call0_v96 : Ref sig .tc := ⟨.hbm, 237, rfl⟩
abbrev main_call2_call0_call0_v97 : Ref sig .tc := ⟨.hbm, 238, rfl⟩
abbrev main_call2_call0_call0_c_25 : Ref sig .tc := ⟨.hbm, 239, rfl⟩
abbrev main_call2_call0_call0_v98 : Ref sig .tc := ⟨.hbm, 240, rfl⟩
abbrev main_call2_call0_call0_v99 : Ref sig .tc := ⟨.hbm, 241, rfl⟩
abbrev main_call2_call0_call0_v100 : Ref sig .tc := ⟨.hbm, 242, rfl⟩
abbrev main_call2_call0_call0_v101 : Ref sig .tc := ⟨.hbm, 243, rfl⟩
abbrev main_call2_call0_call0_v102 : Ref sig .tc := ⟨.hbm, 244, rfl⟩
abbrev main_call2_call0_call0_v103 : Ref sig .tc := ⟨.hbm, 245, rfl⟩
abbrev main_call2_call0_call0_v104 : Ref sig .tc := ⟨.hbm, 246, rfl⟩
abbrev main_call2_call0_call0_v105 : Ref sig .tc := ⟨.hbm, 247, rfl⟩
abbrev main_call2_call0_call0_c_26 : Ref sig .tc := ⟨.hbm, 248, rfl⟩
abbrev main_call2_call0_call0_v106 : Ref sig .tc := ⟨.hbm, 249, rfl⟩
abbrev main_call2_call0_call0_v107 : Ref sig .tc := ⟨.hbm, 250, rfl⟩
abbrev main_call2_call0_call0_v108 : Ref sig .tc := ⟨.hbm, 251, rfl⟩
abbrev main_call2_call0_call0_c_27 : Ref sig .tc := ⟨.hbm, 252, rfl⟩
abbrev main_call2_call0_call0_v109 : Ref sig .tc := ⟨.hbm, 253, rfl⟩
abbrev main_call2_call0_call0_v110 : Ref sig .tc := ⟨.hbm, 254, rfl⟩
abbrev main_call2_call0_call0_c_28 : Ref sig .tc := ⟨.hbm, 255, rfl⟩
abbrev main_call2_call0_call0_v111 : Ref sig .tc := ⟨.hbm, 256, rfl⟩
abbrev main_call2_call0_call0_v112 : Ref sig .tc := ⟨.hbm, 257, rfl⟩
abbrev main_call2_call0_call0_v113 : Ref sig .tc := ⟨.hbm, 258, rfl⟩
abbrev main_call2_call0_call0_v114 : Ref sig .tc := ⟨.hbm, 259, rfl⟩
abbrev main_call2_call0_call0_v115 : Ref sig .tc := ⟨.hbm, 260, rfl⟩
abbrev main_call2_call0_call0_c_29 : Ref sig .tc := ⟨.hbm, 261, rfl⟩
abbrev main_call2_call0_call0_v116 : Ref sig .tc := ⟨.hbm, 262, rfl⟩
abbrev main_call2_call0_call0_v117 : Ref sig .tc := ⟨.hbm, 263, rfl⟩
abbrev main_call2_call0_call0_c_30 : Ref sig .tc := ⟨.hbm, 264, rfl⟩
abbrev main_call2_call0_call0_v118 : Ref sig .tc := ⟨.hbm, 265, rfl⟩
abbrev main_call2_call0_call0_v119 : Ref sig .tc := ⟨.hbm, 266, rfl⟩
abbrev main_call2_call0_call0_v120 : Ref sig .tc := ⟨.hbm, 267, rfl⟩
abbrev main_call2_call0_call0_v121 : Ref sig .tc := ⟨.hbm, 268, rfl⟩
abbrev main_call2_call0_call0_v122 : Ref sig .tc := ⟨.hbm, 269, rfl⟩
abbrev main_call2_call0_call0_c_31 : Ref sig .tc := ⟨.hbm, 270, rfl⟩
abbrev main_call2_call0_call0_v123 : Ref sig .tc := ⟨.hbm, 271, rfl⟩
abbrev main_call2_call0_call0_v124 : Ref sig .tc := ⟨.hbm, 272, rfl⟩
abbrev main_call2_call0_call0_c_32 : Ref sig .tc := ⟨.hbm, 273, rfl⟩
abbrev main_call2_call0_call0_v125 : Ref sig .tc := ⟨.hbm, 274, rfl⟩
abbrev main_call2_call0_call0_v126 : Ref sig .tc := ⟨.hbm, 275, rfl⟩
abbrev main_call2_call0_call0_v127 : Ref sig .tc := ⟨.hbm, 276, rfl⟩
abbrev main_call2_call0_call0_v128 : Ref sig .tc := ⟨.hbm, 277, rfl⟩
abbrev main_call2_call0_call0_v129 : Ref sig .tc := ⟨.hbm, 278, rfl⟩
abbrev main_call2_call0_call0_c_33 : Ref sig .tc := ⟨.hbm, 279, rfl⟩
abbrev main_call2_call0_call0_v130 : Ref sig .tc := ⟨.hbm, 280, rfl⟩
abbrev main_call2_call0_call0_v131 : Ref sig .tc := ⟨.hbm, 281, rfl⟩
abbrev main_call2_call0_call0_c_34 : Ref sig .tc := ⟨.hbm, 282, rfl⟩
abbrev main_call2_call0_call0_v132 : Ref sig .tc := ⟨.hbm, 283, rfl⟩
abbrev main_call2_call0_call0_v133 : Ref sig .tc := ⟨.hbm, 284, rfl⟩
abbrev main_call2_call0_call0_v134 : Ref sig .tc := ⟨.hbm, 285, rfl⟩
abbrev main_call2_call0_call0_v135 : Ref sig .tc := ⟨.hbm, 286, rfl⟩
abbrev main_call2_call0_call0_v136 : Ref sig .tc := ⟨.hbm, 287, rfl⟩
abbrev main_call2_call0_call0_v137 : Ref sig .tc := ⟨.hbm, 288, rfl⟩
abbrev main_call2_call0_call0_v138 : Ref sig .tc := ⟨.hbm, 289, rfl⟩
abbrev main_call2_call0_call0_v139 : Ref sig .tc := ⟨.hbm, 290, rfl⟩
abbrev main_call2_call0_call0_c_35 : Ref sig .tc := ⟨.hbm, 291, rfl⟩
abbrev main_call2_call0_call0_v140 : Ref sig .tc := ⟨.hbm, 292, rfl⟩
abbrev main_call2_call0_call0_v141 : Ref sig .tc := ⟨.hbm, 293, rfl⟩
abbrev main_call2_call0_call0_v142 : Ref sig .tc := ⟨.hbm, 294, rfl⟩
abbrev main_call2_call0_call0_c_36 : Ref sig .tc := ⟨.hbm, 295, rfl⟩
abbrev main_call2_call0_call0_v143 : Ref sig .tc := ⟨.hbm, 296, rfl⟩
abbrev main_call2_call0_call0_v144 : Ref sig .tc := ⟨.hbm, 297, rfl⟩
abbrev main_call2_call0_call0_c_37 : Ref sig .tc := ⟨.hbm, 298, rfl⟩
abbrev main_call2_call0_call0_v145 : Ref sig .tc := ⟨.hbm, 299, rfl⟩
abbrev main_call2_call0_call0_v146 : Ref sig .tc := ⟨.hbm, 300, rfl⟩
abbrev main_call2_call0_call0_v147 : Ref sig .tc := ⟨.hbm, 301, rfl⟩
abbrev main_call2_call0_call0_v148 : Ref sig .tc := ⟨.hbm, 302, rfl⟩
abbrev main_call2_call0_call0_v149 : Ref sig .tc := ⟨.hbm, 303, rfl⟩
abbrev main_call2_call0_call0_c_38 : Ref sig .tc := ⟨.hbm, 304, rfl⟩
abbrev main_call2_call0_call0_v150 : Ref sig .tc := ⟨.hbm, 305, rfl⟩
abbrev main_call2_call0_call0_v151 : Ref sig .tc := ⟨.hbm, 306, rfl⟩
abbrev main_call2_call0_call0_c_39 : Ref sig .tc := ⟨.hbm, 307, rfl⟩
abbrev main_call2_call0_call0_v152 : Ref sig .tc := ⟨.hbm, 308, rfl⟩
abbrev main_call2_call0_call0_v153 : Ref sig .tc := ⟨.hbm, 309, rfl⟩
abbrev main_call2_call0_call0_v154 : Ref sig .tc := ⟨.hbm, 310, rfl⟩
abbrev main_call2_call0_call0_v155 : Ref sig .tc := ⟨.hbm, 311, rfl⟩
abbrev main_call2_call0_call0_v156 : Ref sig .tc := ⟨.hbm, 312, rfl⟩
abbrev main_call2_call0_call0_c_40 : Ref sig .tc := ⟨.hbm, 313, rfl⟩
abbrev main_call2_call0_call0_v157 : Ref sig .tc := ⟨.hbm, 314, rfl⟩
abbrev main_call2_call0_call0_v158 : Ref sig .tc := ⟨.hbm, 315, rfl⟩
abbrev main_call2_call0_call0_c_41 : Ref sig .tc := ⟨.hbm, 316, rfl⟩
abbrev main_call2_call0_call0_v159 : Ref sig .tc := ⟨.hbm, 317, rfl⟩
abbrev main_call2_call0_call0_v160 : Ref sig .tc := ⟨.hbm, 318, rfl⟩
abbrev main_call2_call0_call0_v161 : Ref sig .tc := ⟨.hbm, 319, rfl⟩
abbrev main_call2_call0_call0_v162 : Ref sig .tc := ⟨.hbm, 320, rfl⟩
abbrev main_call2_call0_call0_v163 : Ref sig .tc := ⟨.hbm, 321, rfl⟩
abbrev main_call2_call0_call0_c_42 : Ref sig .tc := ⟨.hbm, 322, rfl⟩
abbrev main_call2_call0_call0_v164 : Ref sig .tc := ⟨.hbm, 323, rfl⟩
abbrev main_call2_call0_call0_v165 : Ref sig .tc := ⟨.hbm, 324, rfl⟩
abbrev main_call2_call0_call0_c_43 : Ref sig .tc := ⟨.hbm, 325, rfl⟩
abbrev main_call2_call0_call0_v166 : Ref sig .tc := ⟨.hbm, 326, rfl⟩
abbrev main_call2_call0_call0_v167 : Ref sig .tc := ⟨.hbm, 327, rfl⟩
abbrev main_call2_call0_call0_v168 : Ref sig .tc := ⟨.hbm, 328, rfl⟩
abbrev main_call2_call0_call0_v169 : Ref sig .tc := ⟨.hbm, 329, rfl⟩
abbrev main_call2_call0_call0_v170 : Ref sig .tc := ⟨.hbm, 330, rfl⟩
abbrev main_call2_call0_v18_0 : Ref sig .tc := ⟨.hbm, 331, rfl⟩
abbrev main_call2_call0_call0_v172 : Ref sig .tc := ⟨.hbm, 332, rfl⟩
abbrev main_call2_call0_call0_v173 : Ref sig .tc := ⟨.hbm, 333, rfl⟩
abbrev main_call2_call0_call0_c_44 : Ref sig .tc := ⟨.hbm, 334, rfl⟩
abbrev main_call2_call0_call0_v174 : Ref sig .tc := ⟨.hbm, 335, rfl⟩
abbrev main_call2_call0_v18_1 : Ref sig .tc := ⟨.hbm, 336, rfl⟩
abbrev main_call2_call0_v19 : Ref sig .tc := ⟨.hbm, 337, rfl⟩
abbrev main_call2_call0_c_2 : Ref sig .tc := ⟨.hbm, 338, rfl⟩
abbrev main_call2_call0_v20 : Ref sig .tc := ⟨.hbm, 339, rfl⟩
abbrev main_call2_call0_v21 : Ref sig .tc := ⟨.hbm, 340, rfl⟩
abbrev main_call2_call0_c_3 : Ref sig .tc := ⟨.hbm, 341, rfl⟩
abbrev main_call2_call0_v22 : Ref sig .tc := ⟨.hbm, 342, rfl⟩
abbrev main_call2_call0_v23 : Ref sig .tc := ⟨.hbm, 343, rfl⟩
abbrev main_call2_call0_v24 : Ref sig .tc := ⟨.hbm, 344, rfl⟩
abbrev main_call2_call0_cst : Ref sig .tc := ⟨.hbm, 345, rfl⟩
abbrev main_call2_call0_v25 : Ref sig .tc := ⟨.hbm, 346, rfl⟩
abbrev main_call2_call0_v26 : Ref sig .tc := ⟨.hbm, 347, rfl⟩
abbrev main_call2_call0_v27 : Ref sig .tc := ⟨.hbm, 348, rfl⟩
abbrev main_call2_call0_v28 : Ref sig .tc := ⟨.hbm, 349, rfl⟩
abbrev main_call2_call0_v29 : Ref sig .tc := ⟨.hbm, 350, rfl⟩
abbrev main_call2_call0_v30 : Ref sig .tc := ⟨.hbm, 351, rfl⟩
abbrev main_call2_call0_v31 : Ref sig .tc := ⟨.hbm, 352, rfl⟩
abbrev main_call2_call0_v32 : Ref sig .tc := ⟨.hbm, 353, rfl⟩
abbrev main_call2_v0 : Ref sig .tc := ⟨.hbm, 354, rfl⟩
abbrev main_call2_v1 : Ref sig .tc := ⟨.hbm, 355, rfl⟩
abbrev main_call2_v2 : Ref sig .tc := ⟨.hbm, 356, rfl⟩
abbrev main_call2_v3 : Ref sig .tc := ⟨.hbm, 357, rfl⟩
abbrev main_v69 : Ref sig .tc := ⟨.hbm, 358, rfl⟩
abbrev main_v70 : Ref sig .tc := ⟨.hbm, 359, rfl⟩
abbrev main_call3_v0 : Ref sig .tc := ⟨.hbm, 360, rfl⟩
abbrev main_call3_cst : Ref sig .tc := ⟨.hbm, 361, rfl⟩
abbrev main_call3_c : Ref sig .tc := ⟨.hbm, 362, rfl⟩
abbrev main_call3_v1_0 : Ref sig .tc := ⟨.hbm, 363, rfl⟩
abbrev main_v71 : Ref sig .tc := ⟨.hbm, 364, rfl⟩
abbrev main_c_3 : Ref sig .tc := ⟨.hbm, 365, rfl⟩
abbrev main_call4_v0 : Ref sig .tc := ⟨.hbm, 366, rfl⟩
abbrev main_call4_c : Ref sig .tc := ⟨.hbm, 367, rfl⟩
abbrev main_call4_v1 : Ref sig .tc := ⟨.hbm, 368, rfl⟩
abbrev main_call4_c_0 : Ref sig .tc := ⟨.hbm, 369, rfl⟩
abbrev main_call4_v2 : Ref sig .tc := ⟨.hbm, 370, rfl⟩
abbrev main_call4_v3 : Ref sig .tc := ⟨.hbm, 371, rfl⟩
abbrev main_call4_v4 : Ref sig .tc := ⟨.hbm, 372, rfl⟩
abbrev main_call4_c_1 : Ref sig .tc := ⟨.hbm, 373, rfl⟩
abbrev main_call4_v5 : Ref sig .tc := ⟨.hbm, 374, rfl⟩
abbrev main_call4_v6 : Ref sig .tc := ⟨.hbm, 375, rfl⟩
abbrev main_call4_c_2 : Ref sig .tc := ⟨.hbm, 376, rfl⟩
abbrev main_call4_v7 : Ref sig .tc := ⟨.hbm, 377, rfl⟩
abbrev main_call4_v8 : Ref sig .tc := ⟨.hbm, 378, rfl⟩
abbrev main_call4_c_3 : Ref sig .tc := ⟨.hbm, 379, rfl⟩
abbrev main_call4_v9 : Ref sig .tc := ⟨.hbm, 380, rfl⟩
abbrev main_call4_v10 : Ref sig .tc := ⟨.hbm, 381, rfl⟩
abbrev main_call4_v11 : Ref sig .tc := ⟨.hbm, 382, rfl⟩
abbrev main_call4_v12 : Ref sig .tc := ⟨.hbm, 383, rfl⟩
abbrev main_call4_v13 : Ref sig .tc := ⟨.hbm, 384, rfl⟩
abbrev main_call4_v14 : Ref sig .tc := ⟨.hbm, 385, rfl⟩
abbrev main_v72 : Ref sig .tc := ⟨.hbm, 386, rfl⟩
abbrev main_c_4 : Ref sig .tc := ⟨.hbm, 387, rfl⟩
abbrev main_call5_v0 : Ref sig .tc := ⟨.hbm, 388, rfl⟩
abbrev main_call5_v1 : Ref sig .tc := ⟨.hbm, 389, rfl⟩
abbrev main_call5_v2 : Ref sig .tc := ⟨.hbm, 390, rfl⟩
abbrev main_call5_v3 : Ref sig .tc := ⟨.hbm, 391, rfl⟩
abbrev main_call5_v4 : Ref sig .tc := ⟨.hbm, 392, rfl⟩
abbrev main_call5_v5 : Ref sig .tc := ⟨.hbm, 393, rfl⟩
abbrev main_call5_v6 : Ref sig .tc := ⟨.hbm, 394, rfl⟩
abbrev main_call5_v7 : Ref sig .tc := ⟨.hbm, 395, rfl⟩
abbrev main_call5_v8 : Ref sig .tc := ⟨.hbm, 396, rfl⟩
abbrev main_call5_c : Ref sig .tc := ⟨.hbm, 397, rfl⟩
abbrev main_call5_v9 : Ref sig .tc := ⟨.hbm, 398, rfl⟩
abbrev main_call5_v10 : Ref sig .tc := ⟨.hbm, 399, rfl⟩
abbrev main_call5_v11 : Ref sig .tc := ⟨.hbm, 400, rfl⟩
abbrev main_call5_c_0 : Ref sig .tc := ⟨.hbm, 401, rfl⟩
abbrev main_call5_v12 : Ref sig .tc := ⟨.hbm, 402, rfl⟩
abbrev main_call5_v13 : Ref sig .tc := ⟨.hbm, 403, rfl⟩
abbrev main_v73 : Ref sig .tc := ⟨.hbm, 404, rfl⟩
abbrev main_v74 : Ref sig .tc := ⟨.hbm, 405, rfl⟩
abbrev main_v75 : Ref sig .tc := ⟨.hbm, 406, rfl⟩
abbrev main_v76 : Ref sig .tc := ⟨.hbm, 407, rfl⟩
abbrev main_v77 : Ref sig .tc := ⟨.hbm, 408, rfl⟩
abbrev main_c_5 : Ref sig .tc := ⟨.hbm, 409, rfl⟩
abbrev main_v78 : Ref sig .tc := ⟨.hbm, 410, rfl⟩
abbrev main_v79 : Ref sig .tc := ⟨.hbm, 411, rfl⟩
abbrev main_c_6 : Ref sig .tc := ⟨.hbm, 412, rfl⟩
abbrev main_v80 : Ref sig .tc := ⟨.hbm, 413, rfl⟩
abbrev main_v81 : Ref sig .tc := ⟨.hbm, 414, rfl⟩
abbrev main_v82 : Ref sig .tc := ⟨.hbm, 415, rfl⟩
abbrev main_c_7 : Ref sig .tc := ⟨.hbm, 416, rfl⟩
abbrev main_v83 : Ref sig .tc := ⟨.hbm, 417, rfl⟩
abbrev main_v84 : Ref sig .tc := ⟨.hbm, 418, rfl⟩
abbrev main_c_8 : Ref sig .tc := ⟨.hbm, 419, rfl⟩
abbrev main_v85 : Ref sig .tc := ⟨.hbm, 420, rfl⟩
abbrev main_v86 : Ref sig .tc := ⟨.hbm, 421, rfl⟩
abbrev main_v87 : Ref sig .tc := ⟨.hbm, 422, rfl⟩
abbrev main_v88 : Ref sig .tc := ⟨.hbm, 423, rfl⟩
abbrev main_v89 : Ref sig .tc := ⟨.hbm, 424, rfl⟩
abbrev main_v90 : Ref sig .tc := ⟨.hbm, 425, rfl⟩
abbrev main_v91 : Ref sig .tc := ⟨.hbm, 426, rfl⟩

abbrev nD : Nat := 1
abbrev τ : Topo := Topo.v7x

variable {F : FTy → Type} [FloatOps F]
-- ==== Proof.Conv.lean ====
module

public import Idealize.ShloMosaic.Lib.Pointwise

@[expose] public section

/-! # The convolution at one pixel

The mathematics of the 3 × 3 convolution with one ring of zeros around the image, with no program in it. -/

noncomputable section

namespace Cert.Conv
open Idealize.ShloMosaic

/-- A plane with a ring of zeros around it, read at the coordinates of the padded plane. -/
def padded (a : Fin 224 → Fin 224 → EReal) (r s : ℕ) : EReal :=
  if c : 1 ≤ r ∧ r ≤ 224 ∧ 1 ≤ s ∧ s ≤ 224 then a ⟨r - 1, by omega⟩ ⟨s - 1, by omega⟩ else 0

/-- Off the ring the padded plane is the plane. -/
theorem padded_inside (a : Fin 224 → Fin 224 → EReal) (h v : Fin 224) : padded a (1 + h) (1 + v) = a h v := by
  have := h.isLt
  have := v.isLt
  unfold padded
  rw [dif_pos (by omega)]
  congr 1 <;> exact Fin.ext (by simp)

/-- Weighting the padded planes and adding them up is padding the weighted sum. -/
theorem sum_padded (w : Fin 96 → EReal) (x : Fin 96 → Fin 224 → Fin 224 → EReal) (r s : ℕ) :
    ∑ c, w c * padded (x c) r s = padded (fun h v => ∑ c, w c * x c h v) r s := by
  unfold padded
  split
  · rfl
  · simp

/-- The channels' contribution to pixel (h, v) through the weights at offset (i, j). -/
def tap (x : Fin 96 → Fin 224 → Fin 224 → EReal) (w : Fin 96 → Fin 3 → Fin 3 → EReal) (h v : Fin 224)
    (i j : Fin 3) : EReal :=
  ∑ c, w c i j * padded (x c) (i + h) (j + v)

/-- The convolution at pixel (h, v): the nine offsets' contributions and the bias. -/
def pixel (x : Fin 96 → Fin 224 → Fin 224 → EReal) (w : Fin 96 → Fin 3 → Fin 3 → EReal) (b : EReal)
    (h v : Fin 224) : EReal :=
  tap x w h v 0 0 + tap x w h v 0 1 + tap x w h v 0 2 + tap x w h v 1 0 + tap x w h v 1 1 + tap x w h v 1 2
    + tap x w h v 2 0 + tap x w h v 2 1 + tap x w h v 2 2 + b

/-- The same sum begun at the centre offset. -/
theorem pixel_eq_centre_first (x : Fin 96 → Fin 224 → Fin 224 → EReal) (w : Fin 96 → Fin 3 → Fin 3 → EReal)
    (b : EReal) (h v : Fin 224) :
    pixel x w b h v = tap x w h v 1 1 + tap x w h v 0 0 + tap x w h v 0 1 + tap x w h v 0 2 + tap x w h v 1 0
      + tap x w h v 1 2 + tap x w h v 2 0 + tap x w h v 2 1 + tap x w h v 2 2 + b := by
  unfold pixel
  ac_rfl

end Cert.Conv

end
-- ==== Proof.Rows.lean ====
module

public import Idealize.ShloMosaic.Lib.Pointwise

@[expose] public section

/-! # One row of scores

The mathematics of one row, with no program in it: the largest entry of a row, its log-softmax, the first position
holding the largest entry, and how folds over the positions (h, w) of a 224 × 224 plane are folds over the 50176 flat
positions 224·h + w. -/

noncomputable section

namespace Cert.Rows
open Idealize.ShloMosaic

/-! ## The largest entry and the log-softmax -/

/-- The largest entry of a row. -/
def top {ι : Type} [Fintype ι] (y : ι → EReal) : EReal := Finset.univ.fold max ⊥ y

/-- The log-softmax of a row: each entry less the largest one, less the logarithm of the sum of the exponentials of
    those differences. -/
def logSoft {ι : Type} [Fintype ι] (y : ι → EReal) (i : ι) : EReal :=
  y i - top y - Ideal.log (∑ k, Ideal.exp (y k - top y))

theorem top_eq_sup {ι : Type} [Fintype ι] (y : ι → EReal) : top y = Finset.univ.sup y := rfl

theorem le_top {ι : Type} [Fintype ι] (y : ι → EReal) (i : ι) : y i ≤ top y :=
  Finset.le_sup (f := y) (Finset.mem_univ i)

theorem exists_top {ι : Type} [Fintype ι] [Nonempty ι] (y : ι → EReal) : ∃ i, y i = top y := by
  obtain ⟨i, -, hi⟩ := Finset.exists_mem_eq_sup Finset.univ Finset.univ_nonempty y
  exact ⟨i, hi.symm⟩

/-- The largest entry does not depend on how the positions are numbered. -/
theorem top_comp {ι κ : Type} [Fintype ι] [Fintype κ] (e : κ ≃ ι) (y : ι → EReal) : top (y ∘ e) = top y :=
  le_antisymm (Finset.sup_le fun k _ => le_top y (e k))
    (Finset.sup_le fun i _ => by simpa using le_top (y ∘ e) (e.symm i))

/-- Nor does the log-softmax. -/
theorem logSoft_comp {ι κ : Type} [Fintype ι] [Fintype κ] (e : κ ≃ ι) (y : ι → EReal) (k : κ) :
    logSoft (y ∘ e) k = logSoft y (e k) := by
  unfold logSoft
  rw [top_comp, ← Equiv.sum_comp e fun i => Ideal.exp (y i - top y)]
  rfl

/-- The bit pattern of minus infinity is the least extended real. -/
theorem neg_inf_bits : Ideal.ofBits .f32 0xFF800000#32 = ⊥ := by
  simp [Ideal.ofBits, Ideal.ieee]

/-! ## The first position of the largest entry -/

/-- The first position at which a row takes its largest entry. -/
def first {n : ℕ} (v : Fin (n + 1) → EReal) : Fin (n + 1) :=
  (Finset.univ.filter fun i => v i = top v).min' ((exists_top v).elim fun i hi => ⟨i, by simpa using hi⟩)

theorem first_top {n : ℕ} (v : Fin (n + 1) → EReal) : v (first v) = top v :=
  (Finset.mem_filter.1 (Finset.min'_mem (Finset.univ.filter fun i => v i = top v) _)).2

theorem first_le {n : ℕ} (v : Fin (n + 1) → EReal) {i : Fin (n + 1)} (h : v i = top v) : first v ≤ i :=
  Finset.min'_le _ _ (by simpa using h)

/-- The first position is the only one that holds a largest entry and is passed by every earlier position. -/
theorem eq_first {n : ℕ} (v : Fin (n + 1) → EReal) (k : Fin (n + 1)) (hk : ∀ i, v i ≤ v k)
    (hlt : ∀ i, i < k → v i < v k) : k = first v := by
  have e : v k = top v := le_antisymm (le_top v k) (Finset.sup_le fun i _ => hk i)
  refine le_antisymm (not_lt.1 fun h => ?_) (first_le v e)
  exact absurd (hlt _ h) (by rw [first_top v, e]; exact lt_irrefl _)

/-! ## The argmax reducer's fold

The reducer keeps the left pair (value, index) when its value is larger, or equal with the smaller index; otherwise it
takes the right pair. -/

/-- The word of a position. -/
abbrev word {n : ℕ} (i : Fin n) : BitVec 32 := BitVec.ofNat 32 i.val

theorem word_toInt {n : ℕ} (hn : n ≤ 2 ^ 31) (i : Fin n) : (word i).toInt = (i.val : ℤ) := by
  have := i.isLt
  rw [BitVec.toInt_eq_toNat_of_lt] <;> rw [BitVec.toNat_ofNat, Nat.mod_eq_of_lt (by omega)]
  omega

theorem word_slt {n : ℕ} (hn : n ≤ 2 ^ 31) (i j : Fin n) : (word i).slt (word j) = decide (i < j) := by
  rw [BitVec.slt, word_toInt hn, word_toInt hn]
  exact decide_eq_decide.2 (by rw [Nat.cast_lt]; rfl)

/-- A step that behaves like the argmax reducer on pairs (entry, word of its position), positions being met in
    increasing order. -/
structure IsStep {n : ℕ} (v : Fin n → EReal) (f : EReal × BitVec 32 → EReal × BitVec 32 → EReal × BitVec 32) :
    Prop where
  keep : ∀ i j, i < j → v j ≤ v i → f (v i, word i) (v j, word j) = (v i, word i)
  move : ∀ i j, i < j → v i < v j → f (v i, word i) (v j, word j) = (v j, word j)

/-- Folding from position `j` over later positions, in increasing order, ends at the first position of the largest
    entry among those met. -/
theorem foldl_step {n : ℕ} (v : Fin n → EReal) {f} (hf : IsStep v f) (l : List (Fin n)) :
    ∀ j : Fin n, (j :: l).Pairwise (· < ·) →
      ∃ k, (l.map fun i => (v i, word i)).foldl f (v j, word j) = (v k, word k)
        ∧ (k = j ∨ k ∈ l) ∧ (∀ i ∈ j :: l, v i ≤ v k) ∧ ∀ i ∈ j :: l, i < k → v i < v k := by
  induction l with
  | nil => exact fun j _ => ⟨j, rfl, .inl rfl, by simp, by simp⟩
  | cons a l ih =>
    intro j hj
    rw [List.pairwise_cons] at hj
    obtain ⟨hja, hal⟩ := hj
    have hal' := List.pairwise_cons.1 hal
    have ja : j < a := hja a List.mem_cons_self
    simp only [List.map_cons, List.foldl_cons]
    rcases le_or_gt (v a) (v j) with h | h
    · rw [hf.keep j a ja h]
      obtain ⟨k, e, hk, hle, hlt⟩ := ih j (List.pairwise_cons.2 ⟨fun b hb => hja b (List.mem_cons_of_mem _ hb), hal'.2⟩)
      refine ⟨k, e, hk.imp_right (List.mem_cons_of_mem _), fun i hi => ?_, fun i hi hik => ?_⟩
      · rcases List.mem_cons.1 hi with rfl | hi
        · exact hle i List.mem_cons_self
        rcases List.mem_cons.1 hi with rfl | hi
        · exact h.trans (hle j List.mem_cons_self)
        · exact hle i (List.mem_cons_of_mem _ hi)
      · rcases List.mem_cons.1 hi with rfl | hi
        · exact hlt i List.mem_cons_self hik
        rcases List.mem_cons.1 hi with rfl | hi
        · exact h.trans_lt (hlt j List.mem_cons_self (ja.trans hik))
        · exact hlt i (List.mem_cons_of_mem _ hi) hik
    · rw [hf.move j a ja h]
      obtain ⟨k, e, hk, hle, hlt⟩ := ih a hal
      have hak : a ≤ k := by
        rcases hk with rfl | hk
        · exact le_rfl
        · exact (hal'.1 k hk).le
      refine ⟨k, e, .inr (hk.elim (fun h => h ▸ List.mem_cons_self) (List.mem_cons_of_mem _)), fun i hi => ?_,
        fun i hi hik => ?_⟩
      · rcases List.mem_cons.1 hi with rfl | hi
        · exact h.le.trans (hle a List.mem_cons_self)
        · exact hle i hi
      · rcases List.mem_cons.1 hi with rfl | hi
        · exact h.trans_le (hle a List.mem_cons_self)
        · exact hlt i hi hik

/-- Over all positions the fold ends at the word of the first position of the largest entry, from any initial pair
    that gives way to position 0. -/
theorem foldl_first {n : ℕ} (v : Fin (n + 1) → EReal) {f} (hf : IsStep v f) (z : EReal × BitVec 32)
    (hz : f z (v 0, word (0 : Fin (n + 1))) = (v 0, word (0 : Fin (n + 1)))) :
    ((List.finRange (n + 1)).map fun i => (v i, word i)).foldl f z = (top v, word (first v)) := by
  have hp : (List.finRange (n + 1)).Pairwise (· < ·) := List.pairwise_lt_finRange _
  rw [List.finRange_succ] at hp ⊢
  simp only [List.map_cons, List.foldl_cons]
  rw [hz]
  obtain ⟨k, e, -, hle, hlt⟩ := foldl_step v hf _ 0 hp
  rw [← List.finRange_succ] at hle hlt
  obtain rfl := eq_first v k (fun i => hle i (List.mem_finRange i)) fun i => hlt i (List.mem_finRange i)
  rw [e, first_top v]

/-! ## The least position by a minimum of words -/

theorem minsi_toInt (a b : BitVec 32) : (IntOp.minsi a b).toInt = min a.toInt b.toInt := by
  unfold IntOp.minsi
  rw [BitVec.slt]
  rcases lt_or_ge a.toInt b.toInt with h | h
  · simp [h, min_eq_left h.le]
  · simp [not_lt.2 h, min_eq_right h]

/-- The minimum, over all positions, of the position's word where the entry is the largest one and of a word beyond
    every position elsewhere, is the word of the first position of the largest entry. -/
theorem fold_min_first {n : ℕ} (hn : n + 1 ≤ 2 ^ 31) (v : Fin (n + 1) → EReal) (far start : BitVec 32)
    (hfar : (n + 1 : ℤ) ≤ far.toInt) (hstart : (n : ℤ) ≤ start.toInt) :
    Finset.univ.fold IntOp.minsi start (fun i => if v i = top v then word i else far) = word (first v) := by
  apply BitVec.eq_of_toInt_eq
  rw [← Finset.fold_hom (op' := min) (op := IntOp.minsi) (m := BitVec.toInt) minsi_toInt, word_toInt hn]
  have hb : ((first v).val : ℤ) ≤ n := by have := (first v).isLt; omega
  apply le_antisymm
  · refine Finset.fold_min_le _ |>.2 (.inr ⟨first v, Finset.mem_univ _, ?_⟩)
    rw [if_pos (first_top v), word_toInt hn]
  · refine Finset.le_fold_min _ |>.2 ⟨hb.trans hstart, fun i _ => ?_⟩
    split
    · next h => rw [word_toInt hn]; exact_mod_cast first_le v h
    · exact hb.trans (by omega)

/-! ## The plane's positions -/

/-- The flat position 224·h + w of the plane's position (h, w). -/
def flat : Fin 224 × Fin 224 ≃ Fin 50176 where
  toFun p := ⟨224 * p.1.val + p.2.val, by have := p.1.isLt; have := p.2.isLt; omega⟩
  invFun n := (⟨n.val / 224, by have := n.isLt; omega⟩, ⟨n.val % 224, by omega⟩)
  left_inv p := by
    have := p.2.isLt
    exact Prod.ext (Fin.ext (by show (224 * p.1.val + p.2.val) / 224 = _; omega))
      (Fin.ext (by show (224 * p.1.val + p.2.val) % 224 = _; omega))
  right_inv n := Fin.ext (by show 224 * (n.val / 224) + n.val % 224 = _; omega)

/-- A fold over the plane's positions is the fold over the flat ones. -/
theorem fold_flat {α : Type} (op : α → α → α) [Std.Commutative op] [Std.Associative op] (z : α)
    (f : Fin 50176 → α) :
    Finset.univ.fold op z (fun p : Fin 224 × Fin 224 => f (flat p)) = Finset.univ.fold op z f := by
  have h := Finset.fold_map (op := op) (b := z) (f := f) (g := flat.toEmbedding) (s := Finset.univ)
  rw [Finset.map_univ_equiv] at h
  exact h.symm

/-- A double sum over the plane is the sum over the flat positions. -/
theorem sum_flat (f : Fin 50176 → EReal) : ∑ h : Fin 224, ∑ w : Fin 224, f (flat (h, w)) = ∑ n, f n := by
  rw [← Equiv.sum_comp flat f, Fintype.sum_prod_type]

/-- A sum in which one position keeps its entry and every other one is zero is that entry. -/
theorem sum_pick {ι : Type} [Fintype ι] [DecidableEq ι] (y : ι → EReal) (k : ι) :
    ∑ i, (if i = k then y i else 0) = y k := by
  simp

end Cert.Rows

end
-- ==== Proof.KernelBlock.lean ====
module

public import proofs.«01_k».proof.Proof.Gen.KernelIdeal.Skeleton
public import proofs.«01_k».proof.Proof.Conv
public import proofs.«01_k».proof.Proof.Rows
public import Idealize.ShloMosaic.Lib.Routing.Words

@[expose] public section

set_option maxRecDepth 16384

/-! # What one block of the kernel computes

The kernel's body runs once per image. Its vectors are read here at an index: the nine planes of channel sums, the
convolution, the log-softmax of the plane, the plane of scores, the first position of the largest score, and the three
results stored. -/

noncomputable section

namespace Cert.Block
open Cert.KernelIdeal Cert.KernelIdeal.Gen Cert.Conv Cert.Rows Idealize.ShloMosaic

/-! ## The convolution -/

section Conv
variable (x0 : Vec Ideal S1x96x224x224 .f32) (x1 : Vec Ideal S9x96 .f32) (x2 : Vec Ideal S1x1 .f32)

/-- The image the block holds. -/
abbrev image (c : Fin 96) (h v : Fin 224) : EReal := x0 (ix4 0 c h v)

/-- The weights the block holds: row 3·i + j of the matrix is the offset (i, j). -/
abbrev weights (c : Fin 96) (i j : Fin 3) : EReal := x1 (ix2 ⟨3 * i.val + j.val, by omega⟩ c)

/-- The product of the weight matrix and the image, at plane `k`. -/
theorem planes_at (k : Fin 9) (h v : Fin 224) :
    k0_pay2 x0 x1 (ix3 k h v) = ∑ c : Fin 96, x1 (ix2 k c) * x0 (ix4 0 c h v) := by
  pointwise [k0_pay2]

/-- Plane 3·i + j of the product, moved by the offset with zeros let in, is that offset's contribution. -/
theorem moved_eq_tap (i j : Fin 3) (k : Fin 9) (hk : k.val = 3 * i.val + j.val) (h v : Fin 224) :
    padded (fun r s => k0_pay2 x0 x1 (ix3 k r s)) (i + h) (j + v) = tap (image x0) (weights x1) h v i j := by
  have e : k = ⟨3 * i.val + j.val, by omega⟩ := Fin.ext hk
  simp only [planes_at, e]
  exact (sum_padded _ _ _ _).symm

/-- A plane and its movement, one offset at a time, as the body's slices and concatenations leave it. -/
theorem part_at (h v : Fin 224) :
    k0_pay5 x0 x1 (ix2 h v) =
      tap (image x0) (weights x1) h v 1 1 + tap (image x0) (weights x1) h v 0 0 + tap (image x0) (weights x1) h v 0 1
        + tap (image x0) (weights x1) h v 0 2 + tap (image x0) (weights x1) h v 1 0
        + tap (image x0) (weights x1) h v 1 2 + tap (image x0) (weights x1) h v 2 0 := by
  rw [← moved_eq_tap x0 x1 1 1 4 rfl, ← moved_eq_tap x0 x1 0 0 0 rfl, ← moved_eq_tap x0 x1 0 1 1 rfl,
    ← moved_eq_tap x0 x1 0 2 2 rfl, ← moved_eq_tap x0 x1 1 0 3 rfl, ← moved_eq_tap x0 x1 1 2 5 rfl,
    ← moved_eq_tap x0 x1 2 0 6 rfl]
  unfold k0_pay5
  generalize k0_pay2 x0 x1 = a
  have hh := h.isLt
  have hv := v.isLt
  pointwise [k0_pay3, k0_pay4]
  simp only [padded]
  refine congrArg₂ _ (congrArg₂ _ (congrArg₂ _ (congrArg₂ _ (congrArg₂ _ (congrArg₂ _ ?_ ?_) ?_) ?_) ?_) ?_) ?_
  all_goals
    (repeat' split) <;> first
      | rfl
      | omega
      | exact congrArg a (congrArg₂ (ix3 _) (Fin.ext (by dsimp only <;> omega)) (Fin.ext (by dsimp only <;> omega)))

/-- The plane the body takes the softmax of: the nine contributions and the bias. -/
def plane : FVec Ideal S224x224 .f32 :=
  addf (addf (addf (k0_pay5 x0 x1)
      (concatenate S224x224 0 [⟨S223x224, k0_pay6 x0 x1⟩, ⟨S1x224, k0_pay3 (F := Ideal)⟩]
        concatenates_S223x224_S1x224_S224x224_d0))
      (concatenate S224x224 1 [⟨S224x223, extractStridedSlice S224x223 ![0, 1]
          (concatenate S224x224 0 [⟨S223x224, extractStridedSlice S223x224 ![1, 0]
              (shapeCast S224x224 (extractStridedSlice S1x224x224 ![8, 0, 0] (k0_pay2 x0 x1)
                slices_S9x224x224_o8_0_0_S1x224x224) shapeCasts_S1x224x224_S224x224)
              slices_S224x224_o1_0_S223x224⟩, ⟨S1x224, k0_pay3 (F := Ideal)⟩]
            concatenates_S223x224_S1x224_S224x224_d0) slices_S224x224_o0_1_S224x223⟩,
          ⟨S224x1, k0_pay4 (F := Ideal)⟩] concatenates_S224x223_S224x1_S224x224_d1))
    (broadcast S224x224 (extractAt ![0, 0] x2 inpos_S1x1_p0_0))

/-- It is the convolution, pixel by pixel. -/
theorem plane_at (h v : Fin 224) :
    plane x0 x1 x2 (ix2 h v) = pixel (image x0) (weights x1) (x2 (ix2 0 0)) h v := by
  rw [pixel_eq_centre_first, ← part_at x0 x1 h v, ← moved_eq_tap x0 x1 2 1 7 rfl, ← moved_eq_tap x0 x1 2 2 8 rfl]
  unfold plane k0_pay6
  generalize k0_pay2 x0 x1 = a
  generalize k0_pay5 x0 x1 = p
  have hh := h.isLt
  have hv := v.isLt
  pointwise [k0_pay3, k0_pay4]
  simp only [padded]
  refine congrArg₂ _ (congrArg₂ _ (congrArg₂ _ rfl ?_) ?_) rfl
  all_goals
    (repeat' split) <;> first
      | rfl
      | omega
      | exact congrArg a (congrArg₂ (ix3 _) (Fin.ext (by dsimp only <;> omega)) (Fin.ext (by dsimp only <;> omega)))

end Conv

/-! ## The log-softmax of the plane -/

/-- The log-softmax as the body writes it, of any plane. -/
def softened (y : FVec Ideal S224x224 .f32) : FVec Ideal S224x224 .f32 :=
  have shifted : FVec Ideal S224x224 .f32 := subf y (broadcast S224x224 (extractAt ![0, 0, 0]
    (shapeCast S1x1x1 (multiReduction .maximumf [1, 2] S1 (shapeCast S1x224x224 y shapeCasts_S224x224_S1x224x224)
      0xFF800000#32 reduces_S1x224x224_S1 (.inl rfl) rfl) shapeCasts_S1_S1x1x1) inpos_S1x1x1_p0_0_0))
  subf shifted (broadcast S224x224 (Scalar.log (extractAt ![0, 0, 0]
    (shapeCast S1x1x1 (multiReduction .add [1, 2] S1 (shapeCast S1x224x224 (exp shifted) shapeCasts_S224x224_S1x224x224)
      0x00000000#32 reduces_S1x224x224_S1 (.inl rfl) rfl) shapeCasts_S1_S1x1x1) inpos_S1x1x1_p0_0_0)))

/-- A plane laid out as a row of 50176 entries. -/
def row (y : FVec Ideal S224x224 .f32) (n : Fin 50176) : EReal := y (ix2 (flat.symm n).1 (flat.symm n).2)

theorem row_flat (y : FVec Ideal S224x224 .f32) (h v : Fin 224) : row y (flat (h, v)) = y (ix2 h v) := by
  simp [row]

theorem top_plane (y : FVec Ideal S224x224 .f32) :
    Finset.univ.fold max ⊥ (fun p : Fin 224 × Fin 224 => y (ix2 p.1 p.2)) = top (row y) := by
  rw [← top_comp flat (row y)]
  unfold top
  exact congrArg (fun f => Finset.univ.fold max ⊥ f) (funext fun p => (row_flat y p.1 p.2).symm)

theorem softened_at (y : FVec Ideal S224x224 .f32) (h v : Fin 224) :
    softened y (ix2 h v) = logSoft (row y) (flat (h, v)) := by
  pointwise [softened]
  rw [neg_inf_bits, top_plane]
  unfold logSoft
  rw [row_flat, ← sum_flat]
  simp only [row_flat]
  rfl

/-! ## The position of the largest score -/

/-- The scores' mask as the body writes it: where the plane plus the noise is at its largest. -/
def mask (z : FVec Ideal S224x224 .f32) : IVec S224x224 1 :=
  cmpf .oeq z (broadcast S224x224 (extractAt ![0, 0, 0]
    (shapeCast S1x1x1 (multiReduction .maximumf [1, 2] S1 (shapeCast S1x224x224 z shapeCasts_S224x224_S1x224x224)
      0xFF800000#32 reduces_S1x224x224_S1 (.inl rfl) rfl) shapeCasts_S1_S1x1x1) inpos_S1x1x1_p0_0_0))

theorem lin_at (h v : Fin 224) : k0_pay9 (ix2 h v) = word (flat (h, v)) := by
  pointwise [k0_pay9]
  unfold IntOp.addi IntOp.muli
  rw [← BitVec.ofNat_mul, ← BitVec.ofNat_add, Nat.mul_comm]
  rfl

theorem found_at (z : FVec Ideal S224x224 .f32) :
    extractAt ![0, 0, 0] (k0_pay12 k0_pay9 (mask z) k0_pay11) inpos_S1x1x1_p0_0_0 = word (first (n := 50175) (row z)) := by
  unfold k0_pay12 mask k0_pay11
  pointwise
  rw [neg_inf_bits, top_plane]
  simp only [lin_at, ← row_flat z]
  rw [fold_flat IntOp.minsi _ fun n => if row z n = top (row z) then word n else 50176#32]
  exact fold_min_first (by norm_num) (row z) _ _ (by decide) (by decide)

/-- A select on two positions' words being equal is a choice on the positions being equal. -/
theorem select_word (i k : Fin 50176) (a b : EReal) :
    Scalar.select (IntOp.cmpi .eq (word i) (word k)) a b = if i = k then a else b := by
  have h : (word i == word k) = decide (i = k) := by
    rw [Bool.eq_iff_iff, beq_iff_eq, decide_eq_true_iff]
    refine ⟨fun h => Fin.ext ?_, congrArg _⟩
    have := congrArg BitVec.toInt h
    rw [word_toInt (by norm_num), word_toInt (by norm_num)] at this
    exact_mod_cast this
  unfold IntOp.cmpi
  rw [h]
  by_cases e : i = k <;> simp [e, Scalar.select]

/-! ## The three stores -/

/-- The pair of words stored: the position's column and its row, with the signs' corrections as the body writes
    them. -/
def pair (p : BitVec 32) : IVec S1x1x2 32 :=
  k0_pay1 p k0_pay14 (Scalar.select (Scalar.andi (Scalar.xori (Scalar.cmpi .slt (Scalar.remsi p (Scalar.select (Scalar.cmpi .eq 224#32 0#32) 1#32 224#32)) 0#32) (Scalar.cmpi .slt (Scalar.select (Scalar.cmpi .eq 224#32 0#32) 1#32 224#32) 0#32)) (Scalar.cmpi .ne (Scalar.remsi p (Scalar.select (Scalar.cmpi .eq 224#32 0#32) 1#32 224#32)) 0#32)) (Scalar.addi (Scalar.remsi p (Scalar.select (Scalar.cmpi .eq 224#32 0#32) 1#32 224#32)) (Scalar.select (Scalar.cmpi .eq 224#32 0#32) 1#32 224#32)) (Scalar.remsi p (Scalar.select (Scalar.cmpi .eq 224#32 0#32) 1#32 224#32))) 224#32 (Scalar.divsi p 224#32) (Scalar.subi (Scalar.extui (Scalar.cmpi .sgt p 0#32)) (Scalar.extui (Scalar.cmpi .slt p 0#32))) (Scalar.subi (Scalar.extui (Scalar.cmpi .sgt 224#32 0#32)) (Scalar.extui (Scalar.cmpi .slt 224#32 0#32)))

theorem pair_at (k : Fin 50176) (d : Fin 2) :
    pair (word k) (ix3 0 0 d) = if d = 0 then BitVec.ofNat 32 (k.val % 224) else BitVec.ofNat 32 (k.val / 224) := by
  have hk := k.isLt
  have hrem : Scalar.remsi (word k) 224#32 = BitVec.ofNat 32 (k.val % 224) :=
    Routing.remsi_word _ (by omega) (by norm_num) (by norm_num)
  have hdiv : Scalar.divsi (word k) 224#32 = BitVec.ofNat 32 (k.val / 224) :=
    Routing.divsi_word _ (by omega) (by norm_num) (by norm_num)
  have e : Scalar.select (Scalar.cmpi .eq 224#32 0#32) 1#32 224#32 = 224#32 := by decide
  unfold pair k0_pay1 k0_pay14
  rw [e, hrem, hdiv]
  have nonneg (a : ℕ) (ha : a < 50176) : Scalar.cmpi .slt (BitVec.ofNat 32 a) 0#32 = 0#1 := by
    have := word_slt (n := 50176) (by norm_num) ⟨a, ha⟩ 0
    simp only [Scalar.cmpi, IntOp.cmpi]
    exact congrArg BitVec.ofBool (this.trans (decide_eq_false (Fin.not_lt_zero _)))
  have pos : Scalar.cmpi .sgt (word k) 0#32 = BitVec.ofBool (decide (0 < k)) :=
    congrArg BitVec.ofBool (word_slt (n := 50176) (by norm_num) 0 k)
  have first0 : IntOp.cmpi .eq (BitVec.ofNat 32 d.val) 0#32 = BitVec.ofBool (decide (d = 0)) := by
    revert d; decide
  pointwise
  rw [nonneg _ (by omega), nonneg _ hk, pos, first0]
  rcases Nat.eq_zero_or_pos k.val with h | h
  · have hk0 : ¬ (0 < k) := by rw [Fin.lt_def]; show ¬ 0 < k.val; omega
    rw [h, decide_eq_false hk0]
    revert d; decide
  · have hk0 : 0 < k := h
    rw [decide_eq_true hk0]
    generalize BitVec.ofNat 32 (k.val % 224) = a
    generalize BitVec.ofNat 32 (k.val / 224) = b
    have e1 (a b : BitVec 32) (c : BitVec 1) : Scalar.select (Scalar.andi 0#1 c) a b = b := by
      revert c; simp [Scalar.andi, IntOp.andi, Scalar.select]
    have l : Scalar.xori 0#1 (Scalar.cmpi .slt 224#32 0#32) = 0#1 := by decide
    have r : Scalar.cmpi .ne (Scalar.subi (Scalar.extui (BitVec.ofBool true)) (Scalar.extui 0#1))
        (Scalar.subi (Scalar.extui (Scalar.cmpi .sgt 224#32 0#32)) (Scalar.extui (Scalar.cmpi .slt 224#32 0#32)))
        = 0#1 := by decide
    rw [l, r, e1, e1]
    by_cases hd : d = 0 <;> simp [hd, Scalar.select]

theorem picked_at (y : FVec Ideal S224x224 .f32) (k : Fin 50176) (m : IVec S224x224 1)
    (hk : extractAt ![0, 0, 0] (k0_pay12 k0_pay9 m k0_pay11) inpos_S1x1x1_p0_0_0 = word k) :
    k0_pay13 y k0_pay9 m k0_pay11 (ix3 0 0 0) = row y k := by
  unfold k0_pay13
  rw [hk]
  pointwise
  simp only [lin_at, ← row_flat y, select_word]
  rw [sum_flat fun n => if n = k then row y n else 0, sum_pick]

end Cert.Block

end
-- ==== Proof.Answer.lean ====
module

public import proofs.«01_k».proof.Proof.Conv
public import proofs.«01_k».proof.Proof.Rows

@[expose] public section

set_option maxRecDepth 16384

/-! # The answer

What both programs compute, as plain functions of the arguments: images, weights, bias and noise: the logits of an image, and the
position drawn from them. -/

noncomputable section

namespace Cert.Answer
open Cert.Conv Cert.Rows Idealize.ShloMosaic

variable (x : Fin 8 → Fin 96 → Fin 224 → Fin 224 → EReal) (w : Fin 96 → Fin 3 → Fin 3 → EReal) (b : EReal)

/-- The logits of image `n`: its convolution, read row by row. -/
def logits (n : Fin 8) (k : Fin 50176) : EReal := pixel (x n) w b (flat.symm k).1 (flat.symm k).2

theorem logits_flat (n : Fin 8) (h v : Fin 224) : logits x w b n (flat (h, v)) = pixel (x n) w b h v := by
  simp [logits]

variable (g : Fin 8 → Fin 50176 → EReal)

/-- The position drawn for image `n`: the first at which log-probability and noise together are largest. -/
def draw (n : Fin 8) : Fin 50176 := first (n := 50175) fun k => logSoft (logits x w b n) k + g n k

/-- The pair of words stored for image `n`: column and row of the drawn position. -/
def place (n : Fin 8) (d : Fin 2) : BitVec 32 :=
  if d = 0 then BitVec.ofNat 32 ((draw x w b g n).val % 224) else BitVec.ofNat 32 ((draw x w b g n).val / 224)

end Cert.Answer
-- ==== Proof.Line.lean ====
module

public import Idealize.ShloMosaic.Lib.StableHlo.Run

@[expose] public section

/-! # A straight line of host operations, wherever its buffers lie

A line of operations in which each value has a register, and each operation writes the next one. Two programs that run
the same line, each over buffers of its own, end with the same values in it, whatever they started from. -/

noncomputable section

namespace Cert.Line
open Idealize.ShloMosaic Idealize.ShloMosaic.TcCoe Idealize.SL.Sem Idealize.ShloMosaic.StableHlo

variable {n : Nat} {ty : Fin n → BufTy} {Val : EltTy → Type}

/-- A register that holds a value of type `T`. -/
abbrev Reg (ty : Fin n → BufTy) (T : BufTy) := {i : Fin n // ty i = T}

/-- The register `i`, its type found by computation. -/
abbrev reg {T : BufTy} (i : Fin n) (h : ty i = T := by rfl) : Reg ty T := ⟨i, h⟩

/-- One operation: the registers it reads, the one it writes, and its function. -/
inductive Step (ty : Fin n → BufTy) (Val : EltTy → Type) where
  | zero {T : BufTy} (y : Reg ty T) (v : T.Contents Val)
  | one {A T : BufTy} (a : Reg ty A) (y : Reg ty T) (f : A.Contents Val → T.Contents Val)
  | two {A B T : BufTy} (a : Reg ty A) (b : Reg ty B) (y : Reg ty T) (f : A.Contents Val → B.Contents Val → T.Contents Val)

namespace Step

/-- The register written. -/
def out : Step ty Val → Fin n
  | zero y _ => y.1
  | one _ y _ => y.1
  | two _ _ y _ => y.1

/-- The registers read. -/
def ins : Step ty Val → List (Fin n)
  | zero _ _ => []
  | one a _ _ => [a.1]
  | two a b _ _ => [a.1, b.1]

/-- What the registers read hold, at the types at which they are read; and back. -/
def rd {T : BufTy} (g : (i : Fin n) → (ty i).Contents Val) (a : Reg ty T) : T.Contents Val :=
  cast (congrArg (fun U : BufTy => U.Contents Val) a.2) (g a.1)

def wr {T : BufTy} (y : Reg ty T) (v : T.Contents Val) : (ty y.1).Contents Val :=
  cast (congrArg (fun U : BufTy => U.Contents Val) y.2.symm) v

/-- The value written, from what the registers hold. -/
def val (g : (i : Fin n) → (ty i).Contents Val) : (s : Step ty Val) → (ty s.out).Contents Val
  | zero y v => wr y v
  | one a y f => wr y (f (rd g a))
  | two a b y f => wr y (f (rd g a) (rd g b))

theorem val_congr {g g' : (i : Fin n) → (ty i).Contents Val} (s : Step ty Val) (h : ∀ i ∈ s.ins, g i = g' i) :
    s.val g = s.val g' := by
  cases s with
  | zero y v => rfl
  | one a y f => exact congrArg (fun u => wr y (f (cast _ u))) (h a.1 (by simp [ins]))
  | two a b y f =>
    exact congrArg₂ (fun u v => wr y (f (cast _ u) (cast _ v))) (h a.1 (by simp [ins])) (h b.1 (by simp [ins]))

end Step

/-- The line's registers as buffers of a program. -/
structure Place (ty : Fin n → BufTy) (sig : RefSig) where
  ref : Fin n → Ref sig .tc
  ty_eq : ∀ i, (ref i).ty = ty i
  on_device : ∀ i, (ref i).space ≠ .host
  unscoped : ∀ i, (ref i).isScoped = false
  inj : ∀ i j, ref i = ref j → i = j

variable {τ : Topo} {sig : RefSig} (p : Place ty sig)

namespace Place

/-- A register's buffer. -/
def at_ {T : BufTy} (a : Reg ty T) : TRef sig T :=
  ⟨p.ref a.1, (p.ty_eq a.1).trans a.2, p.on_device a.1, p.unscoped a.1⟩

/-- A step as an operation on the buffers. -/
def op : Step ty Val → HloOp τ sig Val
  | .zero y v => TRef.nullary (p.at_ y) v
  | .one a y f => TRef.unary (p.at_ a) (p.at_ y) f
  | .two a b y f => TRef.binary (p.at_ a) (p.at_ b) (p.at_ y) f

/-- What a register's buffer holds. -/
def get (V : Valuation τ sig Val) (i : Fin n) : (ty i).Contents Val :=
  cast (congrArg (fun U : BufTy => U.Contents Val) (p.ty_eq i)) (V (Proc.devRef .tc (p.ref i)))

theorem op_writes (s : Step ty Val) : (p.op s : HloOp τ sig Val).writes = {Proc.devRef .tc (p.ref s.out)} := by
  cases s <;> rfl

theorem op_fresh (s : Step ty Val) : (p.op s : HloOp τ sig Val).fresh = ∅ := by
  cases s <;> rfl

theorem op_sub (s : Step ty Val) : (p.op s : HloOp τ sig Val).bufs ⊆ tcRefs τ sig := by
  cases s with
  | zero y v => exact nullary_bufs_sub (p.at_ y).ref ((p.at_ y).toBuf v) (p.at_ y).dev
  | one a y f => exact unary_bufs_sub (p.at_ a).ref (p.at_ y).ref (fun u => (p.at_ y).toBuf (f ((p.at_ a).ofBuf u))) (p.at_ a).dev (p.at_ y).dev
  | two a b y f => exact binary_bufs_sub (p.at_ a).ref (p.at_ b).ref (p.at_ y).ref (fun u v => (p.at_ y).toBuf (f ((p.at_ a).ofBuf u) ((p.at_ b).ofBuf v))) (p.at_ a).dev (p.at_ b).dev (p.at_ y).dev

theorem op_other (s : Step ty Val) (V : Valuation τ sig Val) (r : Ref sig .tc) (h : r ≠ p.ref s.out) :
    (p.op s).result V (Proc.devRef .tc r) = V (Proc.devRef .tc r) :=
  result_of_writes_ne _ V _ r (p.op_writes s) h

/-- After a step its register holds the step's value. -/
theorem get_out (s : Step ty Val) (V : Valuation τ sig Val) : p.get ((p.op s).result V) s.out = s.val (p.get V) := by
  have e (y : Fin n) : (p.ref y).ty.Contents Val = (ty y).Contents Val :=
    congrArg (fun U : BufTy => U.Contents Val) (p.ty_eq y)
  have hr {A : BufTy} (a : Reg ty A) : (p.at_ a).ofBuf (V (Proc.devRef .tc (p.ref a.1))) = Step.rd (p.get V) a :=
    (cast_cast _ _ _).symm
  have hw {T : BufTy} (y : Reg ty T) (v : T.Contents Val) : cast (e y.1) ((p.at_ y).toBuf v) = Step.wr y v :=
    cast_cast _ _ _
  cases s with
  | zero y v =>
    have h : (p.op (.zero y v)).result V (Proc.devRef .tc (p.ref y.1)) = (p.at_ y).toBuf v :=
      nullary_result (p.at_ y).ref ((p.at_ y).toBuf v) (p.at_ y).dev V
    exact (congrArg (cast (e y.1)) h).trans (hw y v)
  | one a y f =>
    have h : (p.op (.one a y f)).result V (Proc.devRef .tc (p.ref y.1)) =
        (p.at_ y).toBuf (f ((p.at_ a).ofBuf (V (Proc.devRef .tc (p.ref a.1))))) :=
      unary_result (p.at_ a).ref (p.at_ y).ref (fun u => (p.at_ y).toBuf (f ((p.at_ a).ofBuf u))) (p.at_ a).dev (p.at_ y).dev V
    exact (congrArg (cast (e y.1)) h).trans ((hw y _).trans (congrArg (fun u => Step.wr y (f u)) (hr a)))
  | two a b y f =>
    have h : (p.op (.two a b y f)).result V (Proc.devRef .tc (p.ref y.1)) =
        (p.at_ y).toBuf (f ((p.at_ a).ofBuf (V (Proc.devRef .tc (p.ref a.1))))
          ((p.at_ b).ofBuf (V (Proc.devRef .tc (p.ref b.1))))) :=
      binary_result (p.at_ a).ref (p.at_ b).ref (p.at_ y).ref
        (fun u v => (p.at_ y).toBuf (f ((p.at_ a).ofBuf u) ((p.at_ b).ofBuf v))) (p.at_ a).dev (p.at_ b).dev (p.at_ y).dev V
    exact (congrArg (cast (e y.1)) h).trans
      ((hw y _).trans (congrArg₂ (fun u v => Step.wr y (f u v)) (hr a) (hr b)))

/-- The other registers are as they were. -/
theorem get_other (s : Step ty Val) (V : Valuation τ sig Val) (i : Fin n) (h : i ≠ s.out) :
    p.get ((p.op s).result V) i = p.get V i :=
  congrArg (cast _) (p.op_other s V (p.ref i) fun e => h (p.inj _ _ e))

/-- The line as operations. -/
abbrev ops (l : List (Step ty Val)) : List (HloOp τ sig Val) := l.map p.op

theorem ops_sub (l : List (Step ty Val)) : (p.ops l : List (HloOp τ sig Val)).Forall fun op => op.bufs ⊆ tcRefs τ sig :=
  List.forall_iff_forall_mem.mpr fun op h => by
    obtain ⟨s, -, rfl⟩ := List.mem_map.mp h
    exact p.op_sub s

theorem ops_fresh (l : List (Step ty Val)) : (p.ops l : List (HloOp τ sig Val)).Forall fun op => op.fresh = ∅ :=
  List.forall_iff_forall_mem.mpr fun op h => by
    obtain ⟨s, -, rfl⟩ := List.mem_map.mp h
    exact p.op_fresh s

/-- A buffer that is no register's keeps its contents through the line. -/
theorem ops_keep (l : List (Step ty Val)) (V : Valuation τ sig Val) (r : Ref sig .tc) (h : ∀ i, p.ref i ≠ r) :
    after (p.ops l) V (Proc.devRef .tc r) = V (Proc.devRef .tc r) := by
  induction l generalizing V with
  | nil => rfl
  | cons s l ih => exact (ih _).trans (p.op_other s V r (h s.out).symm)

end Place

/-- Each step writes the next register, from `k` on, and reads only registers before it. -/
def ordered : Nat → List (Step ty Val) → Bool
  | _, [] => true
  | k, s :: l => s.out.val == k && s.ins.all (fun i => Nat.blt i.val k) && ordered (k + 1) l

/-- Two programs that run the same line end with the same values in its registers. -/
theorem same {τ' : Topo} {sig' : RefSig} (q : Place ty sig') :
    ∀ (l : List (Step ty Val)) (k : Nat) (V : Valuation τ sig Val) (U : Valuation τ' sig' Val), ordered k l = true →
      (∀ i : Fin n, i.val < k → p.get V i = q.get U i) →
      ∀ i : Fin n, i.val < k + l.length → p.get (after (p.ops l) V) i = q.get (after (q.ops l) U) i
  | [], _, _, _, _, h, i, hi => h i hi
  | s :: l, k, V, U, ho, h, i, hi => by
    simp only [ordered, Bool.and_eq_true, beq_iff_eq, List.all_eq_true, Nat.blt_eq] at ho
    obtain ⟨⟨hk, hin⟩, hl⟩ := ho
    refine same q l (k + 1) _ _ hl (fun j hj => ?_) i (by rw [List.length_cons] at hi; omega)
    by_cases e : j = s.out
    · subst e
      rw [Place.get_out, Place.get_out]
      exact s.val_congr fun a ha => h a (hin a ha)
    · rw [Place.get_other _ _ _ _ e, Place.get_other _ _ _ _ e]
      exact h j (by have : j.val ≠ s.out.val := fun e' => e (Fin.ext e'); omega)

end Cert.Line
-- ==== Proof.Noise.lean ====
module

public import proofs.«01_k».proof.Proof.Line
public import proofs.«01_k».proof.Proof.Gen.ReferenceIdeal

@[expose] public section

set_option maxRecDepth 16384

/-! # The noise as a straight line

The Gumbel noise of the key 42, from the key's two words to the 8 × 50176 noise values: the counter words, the five
groups of four rounds that mix them with the key, the uniform values made of their bits, and minus the logarithm of
minus the logarithm of those. The types of its registers are those of the reference's buffers from `main_c_0` on. -/

noncomputable section

namespace Cert.Noise
open Cert.ReferenceIdeal Cert.ReferenceIdeal.Gen Cert.Line
open Idealize.ShloMosaic Idealize.ShloMosaic.TcCoe Idealize.ShloMosaic.StableHlo

/-- The reference's buffer of a register. -/
abbrev refR (i : Fin 277) : Ref sig .tc := ⟨.hbm, ⟨82 + i.val, Nat.lt_of_lt_of_le (Nat.add_lt_add_left i.isLt 82) (by decide)⟩, rfl⟩

/-- A register's type. -/
abbrev ty (i : Fin 277) : BufTy := (refR i).ty

/-! The registers, by type. -/

abbrev s (i : Fin 277) (h : ty i = ⟨S_, .i32⟩ := by rfl) : Reg ty ⟨S_, .i32⟩ := ⟨i, h⟩
abbrev o (i : Fin 277) (h : ty i = ⟨S1, .i32⟩ := by rfl) : Reg ty ⟨S1, .i32⟩ := ⟨i, h⟩
abbrev k (i : Fin 277) (h : ty i = ⟨S_, .i64⟩ := by rfl) : Reg ty ⟨S_, .i64⟩ := ⟨i, h⟩
abbrev t (i : Fin 277) (h : ty i = ⟨S2, .i32⟩ := by rfl) : Reg ty ⟨S2, .i32⟩ := ⟨i, h⟩
abbrev e (i : Fin 277) (h : ty i = ⟨S_, .f32⟩ := by rfl) : Reg ty ⟨S_, .f32⟩ := ⟨i, h⟩
abbrev w (i : Fin 277) (h : ty i = ⟨S8x50176, .i32⟩ := by rfl) : Reg ty ⟨S8x50176, .i32⟩ := ⟨i, h⟩
abbrev l (i : Fin 277) (h : ty i = ⟨S8x50176, .i64⟩ := by rfl) : Reg ty ⟨S8x50176, .i64⟩ := ⟨i, h⟩
abbrev f (i : Fin 277) (h : ty i = ⟨S8x50176, .f32⟩ := by rfl) : Reg ty ⟨S8x50176, .f32⟩ := ⟨i, h⟩
abbrev b (i : Fin 277) (h : ty i = ⟨S1x1, .f32⟩ := by rfl) : Reg ty ⟨S1x1, .f32⟩ := ⟨i, h⟩

variable {F : FTy → Type} [FloatOps F]

/-- The noise. -/
def code : List (Step ty (Elt F)) :=
  [ .zero (s 0) (constantI S_ 32 42#32),
    .zero (s 1) (constantI S_ 32 32#32),
    .two (s 0) (s 1) (s 2) Host.shrui,
    .one (s 2) (s 3) id,
    .one (s 3) (o 4) (broadcastInDim S1 ![] bcast_S_S1),
    .zero (s 5) (constantI S_ 32 4294967295#32),
    .two (s 0) (s 5) (s 6) andi,
    .one (s 6) (s 7) id,
    .one (s 7) (o 8) (broadcastInDim S1 ![] bcast_S_S1),
    .two (o 4) (o 8) (t 9) (fun a b => concatenate S2 0 [⟨S1, a⟩, ⟨S1, b⟩] concatenates_S1_S1_S2_d0),
    .zero (e 10) (constant S_ .f32 0x3F800000#32),
    .zero (e 11) (constant S_ .f32 0x00800000#32),
    .one (e 10) (e 12) id,
    .one (e 11) (b 13) (broadcastInDim S1x1 ![] bcast_S_S1x1),
    .one (e 12) (b 14) (broadcastInDim S1x1 ![] bcast_S_S1x1),
    .one (t 9) (o 15) (extractStridedSlice S1 ![0] · slices_S2_S1_0),
    .one (o 15) (s 16) (shapeCast S_ · shapeCasts_S1_S_),
    .one (t 9) (o 17) (extractStridedSlice S1 ![1] · slices_S2_S1_1),
    .one (o 17) (s 18) (shapeCast S_ · shapeCasts_S1_S_),
    .zero (l 19) (iotaInDim S8x50176 64 0),
    .zero (l 20) (iotaInDim S8x50176 64 1),
    .zero (k 21) (constantI S_ 64 50176#64),
    .one (k 21) (l 22) (broadcastInDim S8x50176 ![] bcast_S_S8x50176),
    .two (l 22) (l 19) (l 23) muli,
    .zero (k 24) (constantI S_ 64 1#64),
    .one (k 24) (l 25) (broadcastInDim S8x50176 ![] bcast_S_S8x50176),
    .two (l 25) (l 20) (l 26) muli,
    .two (l 23) (l 26) (l 27) addi,
    .zero (k 28) (constantI S_ 64 32#64),
    .one (k 28) (l 29) (broadcastInDim S8x50176 ![] bcast_S_S8x50176),
    .two (l 27) (l 29) (l 30) Host.shrui,
    .one (l 27) (w 31) (trunci 32 · natLt_32_64),
    .one (l 30) (w 32) (trunci 32 · natLt_32_64),
    .two (s 16) (s 18) (s 33) xori,
    .zero (s 34) (constantI S_ 32 466688986#32),
    .two (s 33) (s 34) (s 35) xori,
    .one (s 16) (w 36) (broadcastInDim S8x50176 ![] bcast_S_S8x50176),
    .two (w 32) (w 36) (w 37) addi,
    .one (s 18) (w 38) (broadcastInDim S8x50176 ![] bcast_S_S8x50176),
    .two (w 31) (w 38) (w 39) addi,
    .two (w 37) (w 39) (w 40) addi,
    .zero (s 41) (constantI S_ 32 13#32),
    .one (s 41) (w 42) (broadcastInDim S8x50176 ![] bcast_S_S8x50176),
    .two (w 39) (w 42) (w 43) Host.shli,
    .zero (s 44) (constantI S_ 32 19#32),
    .one (s 44) (w 45) (broadcastInDim S8x50176 ![] bcast_S_S8x50176),
    .two (w 39) (w 45) (w 46) Host.shrui,
    .two (w 43) (w 46) (w 47) ori,
    .two (w 40) (w 47) (w 48) xori,
    .two (w 40) (w 48) (w 49) addi,
    .zero (s 50) (constantI S_ 32 15#32),
    .one (s 50) (w 51) (broadcastInDim S8x50176 ![] bcast_S_S8x50176),
    .two (w 48) (w 51) (w 52) Host.shli,
    .zero (s 53) (constantI S_ 32 17#32),
    .one (s 53) (w 54) (broadcastInDim S8x50176 ![] bcast_S_S8x50176),
    .two (w 48) (w 54) (w 55) Host.shrui,
    .two (w 52) (w 55) (w 56) ori,
    .two (w 49) (w 56) (w 57) xori,
    .two (w 49) (w 57) (w 58) addi,
    .zero (s 59) (constantI S_ 32 26#32),
    .one (s 59) (w 60) (broadcastInDim S8x50176 ![] bcast_S_S8x50176),
    .two (w 57) (w 60) (w 61) Host.shli,
    .zero (s 62) (constantI S_ 32 6#32),
    .one (s 62) (w 63) (broadcastInDim S8x50176 ![] bcast_S_S8x50176),
    .two (w 57) (w 63) (w 64) Host.shrui,
    .two (w 61) (w 64) (w 65) ori,
    .two (w 58) (w 65) (w 66) xori,
    .two (w 58) (w 66) (w 67) addi,
    .zero (s 68) (constantI S_ 32 6#32),
    .one (s 68) (w 69) (broadcastInDim S8x50176 ![] bcast_S_S8x50176),
    .two (w 66) (w 69) (w 70) Host.shli,
    .zero (s 71) (constantI S_ 32 26#32),
    .one (s 71) (w 72) (broadcastInDim S8x50176 ![] bcast_S_S8x50176),
    .two (w 66) (w 72) (w 73) Host.shrui,
    .two (w 70) (w 73) (w 74) ori,
    .two (w 67) (w 74) (w 75) xori,
    .one (s 18) (w 76) (broadcastInDim S8x50176 ![] bcast_S_S8x50176),
    .two (w 67) (w 76) (w 77) addi,
    .one (s 35) (w 78) (broadcastInDim S8x50176 ![] bcast_S_S8x50176),
    .two (w 75) (w 78) (w 79) addi,
    .zero (s 80) (constantI S_ 32 1#32),
    .one (s 80) (w 81) (broadcastInDim S8x50176 ![] bcast_S_S8x50176),
    .two (w 79) (w 81) (w 82) addi,
    .two (w 77) (w 82) (w 83) addi,
    .zero (s 84) (constantI S_ 32 17#32),
    .one (s 84) (w 85) (broadcastInDim S8x50176 ![] bcast_S_S8x50176),
    .two (w 82) (w 85) (w 86) Host.shli,
    .zero (s 87) (constantI S_ 32 15#32),
    .one (s 87) (w 88) (broadcastInDim S8x50176 ![] bcast_S_S8x50176),
    .two (w 82) (w 88) (w 89) Host.shrui,
    .two (w 86) (w 89) (w 90) ori,
    .two (w 83) (w 90) (w 91) xori,
    .two (w 83) (w 91) (w 92) addi,
    .zero (s 93) (constantI S_ 32 29#32),
    .one (s 93) (w 94) (broadcastInDim S8x50176 ![] bcast_S_S8x50176),
    .two (w 91) (w 94) (w 95) Host.shli,
    .zero (s 96) (constantI S_ 32 3#32),
    .one (s 96) (w 97) (broadcastInDim S8x50176 ![] bcast_S_S8x50176),
    .two (w 91) (w 97) (w 98) Host.shrui,
    .two (w 95) (w 98) (w 99) ori,
    .two (w 92) (w 99) (w 100) xori,
    .two (w 92) (w 100) (w 101) addi,
    .zero (s 102) (constantI S_ 32 16#32),
    .one (s 102) (w 103) (broadcastInDim S8x50176 ![] bcast_S_S8x50176),
    .two (w 100) (w 103) (w 104) Host.shli,
    .zero (s 105) (constantI S_ 32 16#32),
    .one (s 105) (w 106) (broadcastInDim S8x50176 ![] bcast_S_S8x50176),
    .two (w 100) (w 106) (w 107) Host.shrui,
    .two (w 104) (w 107) (w 108) ori,
    .two (w 101) (w 108) (w 109) xori,
    .two (w 101) (w 109) (w 110) addi,
    .zero (s 111) (constantI S_ 32 24#32),
    .one (s 111) (w 112) (broadcastInDim S8x50176 ![] bcast_S_S8x50176),
    .two (w 109) (w 112) (w 113) Host.shli,
    .zero (s 114) (constantI S_ 32 8#32),
    .one (s 114) (w 115) (broadcastInDim S8x50176 ![] bcast_S_S8x50176),
    .two (w 109) (w 115) (w 116) Host.shrui,
    .two (w 113) (w 116) (w 117) ori,
    .two (w 110) (w 117) (w 118) xori,
    .one (s 35) (w 119) (broadcastInDim S8x50176 ![] bcast_S_S8x50176),
    .two (w 110) (w 119) (w 120) addi,
    .one (s 16) (w 121) (broadcastInDim S8x50176 ![] bcast_S_S8x50176),
    .two (w 118) (w 121) (w 122) addi,
    .zero (s 123) (constantI S_ 32 2#32),
    .one (s 123) (w 124) (broadcastInDim S8x50176 ![] bcast_S_S8x50176),
    .two (w 122) (w 124) (w 125) addi,
    .two (w 120) (w 125) (w 126) addi,
    .zero (s 127) (constantI S_ 32 13#32),
    .one (s 127) (w 128) (broadcastInDim S8x50176 ![] bcast_S_S8x50176),
    .two (w 125) (w 128) (w 129) Host.shli,
    .zero (s 130) (constantI S_ 32 19#32),
    .one (s 130) (w 131) (broadcastInDim S8x50176 ![] bcast_S_S8x50176),
    .two (w 125) (w 131) (w 132) Host.shrui,
    .two (w 129) (w 132) (w 133) ori,
    .two (w 126) (w 133) (w 134) xori,
    .two (w 126) (w 134) (w 135) addi,
    .zero (s 136) (constantI S_ 32 15#32),
    .one (s 136) (w 137) (broadcastInDim S8x50176 ![] bcast_S_S8x50176),
    .two (w 134) (w 137) (w 138) Host.shli,
    .zero (s 139) (constantI S_ 32 17#32),
    .one (s 139) (w 140) (broadcastInDim S8x50176 ![] bcast_S_S8x50176),
    .two (w 134) (w 140) (w 141) Host.shrui,
    .two (w 138) (w 141) (w 142) ori,
    .two (w 135) (w 142) (w 143) xori,
    .two (w 135) (w 143) (w 144) addi,
    .zero (s 145) (constantI S_ 32 26#32),
    .one (s 145) (w 146) (broadcastInDim S8x50176 ![] bcast_S_S8x50176),
    .two (w 143) (w 146) (w 147) Host.shli,
    .zero (s 148) (constantI S_ 32 6#32),
    .one (s 148) (w 149) (broadcastInDim S8x50176 ![] bcast_S_S8x50176),
    .two (w 143) (w 149) (w 150) Host.shrui,
    .two (w 147) (w 150) (w 151) ori,
    .two (w 144) (w 151) (w 152) xori,
    .two (w 144) (w 152) (w 153) addi,
    .zero (s 154) (constantI S_ 32 6#32),
    .one (s 154) (w 155) (broadcastInDim S8x50176 ![] bcast_S_S8x50176),
    .two (w 152) (w 155) (w 156) Host.shli,
    .zero (s 157) (constantI S_ 32 26#32),
    .one (s 157) (w 158) (broadcastInDim S8x50176 ![] bcast_S_S8x50176),
    .two (w 152) (w 158) (w 159) Host.shrui,
    .two (w 156) (w 159) (w 160) ori,
    .two (w 153) (w 160) (w 161) xori,
    .one (s 16) (w 162) (broadcastInDim S8x50176 ![] bcast_S_S8x50176),
    .two (w 153) (w 162) (w 163) addi,
    .one (s 18) (w 164) (broadcastInDim S8x50176 ![] bcast_S_S8x50176),
    .two (w 161) (w 164) (w 165) addi,
    .zero (s 166) (constantI S_ 32 3#32),
    .one (s 166) (w 167) (broadcastInDim S8x50176 ![] bcast_S_S8x50176),
    .two (w 165) (w 167) (w 168) addi,
    .two (w 163) (w 168) (w 169) addi,
    .zero (s 170) (constantI S_ 32 17#32),
    .one (s 170) (w 171) (broadcastInDim S8x50176 ![] bcast_S_S8x50176),
    .two (w 168) (w 171) (w 172) Host.shli,
    .zero (s 173) (constantI S_ 32 15#32),
    .one (s 173) (w 174) (broadcastInDim S8x50176 ![] bcast_S_S8x50176),
    .two (w 168) (w 174) (w 175) Host.shrui,
    .two (w 172) (w 175) (w 176) ori,
    .two (w 169) (w 176) (w 177) xori,
    .two (w 169) (w 177) (w 178) addi,
    .zero (s 179) (constantI S_ 32 29#32),
    .one (s 179) (w 180) (broadcastInDim S8x50176 ![] bcast_S_S8x50176),
    .two (w 177) (w 180) (w 181) Host.shli,
    .zero (s 182) (constantI S_ 32 3#32),
    .one (s 182) (w 183) (broadcastInDim S8x50176 ![] bcast_S_S8x50176),
    .two (w 177) (w 183) (w 184) Host.shrui,
    .two (w 181) (w 184) (w 185) ori,
    .two (w 178) (w 185) (w 186) xori,
    .two (w 178) (w 186) (w 187) addi,
    .zero (s 188) (constantI S_ 32 16#32),
    .one (s 188) (w 189) (broadcastInDim S8x50176 ![] bcast_S_S8x50176),
    .two (w 186) (w 189) (w 190) Host.shli,
    .zero (s 191) (constantI S_ 32 16#32),
    .one (s 191) (w 192) (broadcastInDim S8x50176 ![] bcast_S_S8x50176),
    .two (w 186) (w 192) (w 193) Host.shrui,
    .two (w 190) (w 193) (w 194) ori,
    .two (w 187) (w 194) (w 195) xori,
    .two (w 187) (w 195) (w 196) addi,
    .zero (s 197) (constantI S_ 32 24#32),
    .one (s 197) (w 198) (broadcastInDim S8x50176 ![] bcast_S_S8x50176),
    .two (w 195) (w 198) (w 199) Host.shli,
    .zero (s 200) (constantI S_ 32 8#32),
    .one (s 200) (w 201) (broadcastInDim S8x50176 ![] bcast_S_S8x50176),
    .two (w 195) (w 201) (w 202) Host.shrui,
    .two (w 199) (w 202) (w 203) ori,
    .two (w 196) (w 203) (w 204) xori,
    .one (s 18) (w 205) (broadcastInDim S8x50176 ![] bcast_S_S8x50176),
    .two (w 196) (w 205) (w 206) addi,
    .one (s 35) (w 207) (broadcastInDim S8x50176 ![] bcast_S_S8x50176),
    .two (w 204) (w 207) (w 208) addi,
    .zero (s 209) (constantI S_ 32 4#32),
    .one (s 209) (w 210) (broadcastInDim S8x50176 ![] bcast_S_S8x50176),
    .two (w 208) (w 210) (w 211) addi,
    .two (w 206) (w 211) (w 212) addi,
    .zero (s 213) (constantI S_ 32 13#32),
    .one (s 213) (w 214) (broadcastInDim S8x50176 ![] bcast_S_S8x50176),
    .two (w 211) (w 214) (w 215) Host.shli,
    .zero (s 216) (constantI S_ 32 19#32),
    .one (s 216) (w 217) (broadcastInDim S8x50176 ![] bcast_S_S8x50176),
    .two (w 211) (w 217) (w 218) Host.shrui,
    .two (w 215) (w 218) (w 219) ori,
    .two (w 212) (w 219) (w 220) xori,
    .two (w 212) (w 220) (w 221) addi,
    .zero (s 222) (constantI S_ 32 15#32),
    .one (s 222) (w 223) (broadcastInDim S8x50176 ![] bcast_S_S8x50176),
    .two (w 220) (w 223) (w 224) Host.shli,
    .zero (s 225) (constantI S_ 32 17#32),
    .one (s 225) (w 226) (broadcastInDim S8x50176 ![] bcast_S_S8x50176),
    .two (w 220) (w 226) (w 227) Host.shrui,
    .two (w 224) (w 227) (w 228) ori,
    .two (w 221) (w 228) (w 229) xori,
    .two (w 221) (w 229) (w 230) addi,
    .zero (s 231) (constantI S_ 32 26#32),
    .one (s 231) (w 232) (broadcastInDim S8x50176 ![] bcast_S_S8x50176),
    .two (w 229) (w 232) (w 233) Host.shli,
    .zero (s 234) (constantI S_ 32 6#32),
    .one (s 234) (w 235) (broadcastInDim S8x50176 ![] bcast_S_S8x50176),
    .two (w 229) (w 235) (w 236) Host.shrui,
    .two (w 233) (w 236) (w 237) ori,
    .two (w 230) (w 237) (w 238) xori,
    .two (w 230) (w 238) (w 239) addi,
    .zero (s 240) (constantI S_ 32 6#32),
    .one (s 240) (w 241) (broadcastInDim S8x50176 ![] bcast_S_S8x50176),
    .two (w 238) (w 241) (w 242) Host.shli,
    .zero (s 243) (constantI S_ 32 26#32),
    .one (s 243) (w 244) (broadcastInDim S8x50176 ![] bcast_S_S8x50176),
    .two (w 238) (w 244) (w 245) Host.shrui,
    .two (w 242) (w 245) (w 246) ori,
    .two (w 239) (w 246) (w 247) xori,
    .one (s 35) (w 248) (broadcastInDim S8x50176 ![] bcast_S_S8x50176),
    .two (w 239) (w 248) (w 249) addi,
    .one (s 16) (w 250) (broadcastInDim S8x50176 ![] bcast_S_S8x50176),
    .two (w 247) (w 250) (w 251) addi,
    .zero (s 252) (constantI S_ 32 5#32),
    .one (s 252) (w 253) (broadcastInDim S8x50176 ![] bcast_S_S8x50176),
    .two (w 251) (w 253) (w 254) addi,
    .two (w 249) (w 254) (w 255) xori,
    .zero (s 256) (constantI S_ 32 9#32),
    .one (s 256) (w 257) (broadcastInDim S8x50176 ![] bcast_S_S8x50176),
    .two (w 255) (w 257) (w 258) Host.shrui,
    .zero (s 259) (constantI S_ 32 1065353216#32),
    .one (s 259) (w 260) (broadcastInDim S8x50176 ![] bcast_S_S8x50176),
    .two (w 258) (w 260) (w 261) ori,
    .one (w 261) (f 262) (bitcastToFloat .f32),
    .zero (e 263) (constant S_ .f32 0x3F800000#32),
    .one (e 263) (f 264) (broadcastInDim S8x50176 ![] bcast_S_S8x50176),
    .two (f 262) (f 264) (f 265) subf,
    .two (b 14) (b 13) (b 266) subf,
    .one (b 266) (f 267) (broadcastInDim S8x50176 ![0, 1] bcast_S1x1_S8x50176_0_1),
    .two (f 265) (f 267) (f 268) mulf,
    .one (b 13) (f 269) (broadcastInDim S8x50176 ![0, 1] bcast_S1x1_S8x50176_0_1),
    .two (f 268) (f 269) (f 270) addf,
    .one (b 13) (f 271) (broadcastInDim S8x50176 ![0, 1] bcast_S1x1_S8x50176_0_1),
    .two (f 271) (f 270) (f 272) maximumf,
    .one (f 272) (f 273) Host.log,
    .one (f 273) (f 274) Host.negf,
    .one (f 274) (f 275) Host.log,
    .one (f 275) (f 276) Host.negf ]

theorem code_ordered : ordered 0 (code (F := F)) = true := by rfl

/-- The line in the reference. -/
def inReference : Place ty sig where
  ref := refR
  ty_eq _ := rfl
  on_device _ := (by decide : Space.hbm ≠ Space.host)
  unscoped _ := by rfl
  inj i j e := by
    have h : 82 + i.val = 82 + j.val := congrArg (fun r : Ref sig .tc => r.idx.val) e
    exact Fin.ext (by omega)

/-- A buffer before the line's is none of them. -/
theorem refR_ne (r : Ref sig .tc) (h : r.idx.val < 82) (i : Fin 277) : inReference.ref i ≠ r := fun e => by
  have e' : 82 + i.val = r.idx.val := congrArg (fun r : Ref sig .tc => r.idx.val) e
  omega

end Cert.Noise
-- ==== Proof.NoiseKernel.lean ====
module

public import proofs.«01_k».proof.Proof.Noise
public import proofs.«01_k».proof.Proof.Gen.KernelIdeal.Launch

@[expose] public section

set_option maxRecDepth 16384

/-! # The noise in the kernel's program

The host operations before the kernel's region are three on the weights and the bias, the noise's line, and one that
gives the noise its planes. -/

noncomputable section

namespace Cert.Noise
open Cert.KernelIdeal Cert.KernelIdeal.Gen Cert.Line
open Idealize.ShloMosaic Idealize.ShloMosaic.TcCoe Idealize.ShloMosaic.StableHlo

/-- The kernel's buffer of a register. -/
abbrev refK (i : Fin 277) : Ref sig .tc := ⟨.hbm, ⟨6 + i.val, Nat.lt_of_lt_of_le (Nat.add_lt_add_left i.isLt 6) (by decide)⟩, rfl⟩

/-- The line in the kernel. -/
def inKernel : Place ty sig where
  ref := refK
  ty_eq := by decide +kernel
  on_device _ := (by decide : Space.hbm ≠ Space.host)
  unscoped _ := by rfl
  inj i j e := by
    have h : 6 + i.val = 6 + j.val := congrArg (fun r : Ref sig .tc => r.idx.val) e
    exact Fin.ext (by omega)

variable {F : FTy → Type} [FloatOps F]

/-- The operations before the line. -/
abbrev before : List (HloOp τ sig (Elt F)) :=
  [ TRef.reshape (.of main_arg1 : TRef sig ⟨S1x96x3x3, .f32⟩) (.of main_call0_v0 : TRef sig ⟨S96x9, .f32⟩) (rfl : (.f32 : EltTy) = .f32) shapeCasts_S1x96x3x3_S96x9,
    TRef.unary (.of main_call0_v0 : TRef sig ⟨S96x9, .f32⟩) (.of main_call0_v1 : TRef sig ⟨S9x96, .f32⟩) (transpose S9x96 [1, 0] · transposes_S96x9_S9x96_1_0),
    TRef.reshape (.of main_arg2 : TRef sig ⟨S1, .f32⟩) (.of main_call0_v2 : TRef sig ⟨S1x1, .f32⟩) (rfl : (.f32 : EltTy) = .f32) shapeCasts_S1_S1x1 ]

/-- The operation after it. -/
abbrev planes : HloOp τ sig (Elt F) :=
  TRef.reshape (.of main_call0_v10 : TRef sig ⟨S8x50176, .f32⟩) (.of main_call0_v11 : TRef sig ⟨S8x224x224, .f32⟩) (rfl : (.f32 : EltTy) = .f32) shapeCasts_S8x50176_S8x224x224

set_option maxHeartbeats 4000000 in
theorem hostOps0_eq : (hostOps0 : List (HloOp τ sig (Elt F))) = before ++ inKernel.ops code ++ [planes] := by rfl

/-- The two lists one after the other. -/
theorem after_two {τ : Topo} {sig : RefSig} {Val : EltTy → Type} (l l' : List (HloOp τ sig Val)) (V : Valuation τ sig Val) :
    after (l ++ l') V = after l' (after l V) := by
  induction l generalizing V with
  | nil => rfl
  | cons op l ih => exact ih _

/-- What the kernel's buffers hold when the region is entered. -/
theorem entered (V : Valuation τ sig (Elt F)) :
    after hostOps0 V = planes.result (after (inKernel.ops code) (after before V)) := by
  rw [hostOps0_eq, after_two, after_two]
  rfl

/-- A buffer before the line's is none of them. -/
theorem refK_ne (r : Ref sig .tc) (h : r.idx.val < 6) (i : Fin 277) : inKernel.ref i ≠ r := fun e => by
  have e' : 6 + i.val = r.idx.val := congrArg (fun r : Ref sig .tc => r.idx.val) e
  omega

/-- The noise in the kernel's program. -/
def noise (V : Valuation τ sig (Elt F)) : FVec F S8x50176 .f32 :=
  after (inKernel.ops code) (after before V) (Proc.devRef .tc main_call0_v10)

/-- The noise, a plane per image. -/
theorem entered_noise (V : Valuation τ sig (Elt F)) : after hostOps0 V (Proc.devRef .tc main_call0_v11) =
    (shapeCast S8x224x224 (noise V) shapeCasts_S8x50176_S8x224x224 : FVec F S8x224x224 .f32) := by
  rw [entered]
  rfl

/-- A buffer before the noise's holds what the operations on the weights and the bias left there. -/
theorem entered_early (V : Valuation τ sig (Elt F)) (r : Ref sig .tc) (h : r.idx.val < 6) :
    after hostOps0 V (Proc.devRef .tc r) = after before V (Proc.devRef .tc r) := by
  rw [entered, ← inKernel.ops_keep code (after before V) r (refK_ne r h)]
  refine result_of_writes_ne planes _ main_call0_v11 r rfl fun e => ?_
  have e' : r.idx.val = 283 := congrArg (fun r : Ref sig .tc => r.idx.val) e
  omega

/-- The kernel's noise is the reference's. -/
theorem noise_same (V : Valuation τ sig (Elt F)) (U : Valuation ReferenceIdeal.τ ReferenceIdeal.sig (Elt F)) :
    noise V = (after (inReference.ops code) U (Proc.devRef .tc ReferenceIdeal.main_v69) : FVec F S8x50176 .f32) :=
  same inKernel inReference code 0 (after before V) U code_ordered (fun _ h => absurd h (Nat.not_lt_zero _)) 276
    (by have h : (code (F := F)).length = 277 := rfl
        rw [h]; decide)

end Cert.Noise
-- ==== Proof.KernelArrays.lean ====
module

public import proofs.«01_k».proof.Proof.Gen.KernelIdeal.Frame
public import Idealize.ShloMosaic.Lib.Pipeline.ValueKit
public import proofs.«01_k».proof.Proof.KernelBlock
public import proofs.«01_k».proof.Proof.Answer
public import proofs.«01_k».proof.Proof.NoiseKernel

@[expose] public section

set_option maxRecDepth 16384

/-! # What the kernel's three arrays hold after the run -/

noncomputable section

namespace Cert.Arrays
open Cert.KernelIdeal Cert.KernelIdeal.Gen Cert.Conv Cert.Rows Cert.Block Cert.Answer
open Idealize.ShloMosaic Idealize.ShloMosaic.TcCoe Idealize.SL.Sem
open Idealize.ShloMosaic.Pipeline (Dat)

/-! ## The three stores of one block -/

section Stores
variable (x0 : Vec Ideal S1x96x224x224 .f32) (x1 : Vec Ideal S9x96 .f32) (x2 : Vec Ideal S1x1 .f32)
  (x3 : Vec Ideal S1x224x224 .f32)

/-- The plane of log-probabilities of the block. -/
abbrev lp : FVec Ideal S224x224 .f32 := softened (plane x0 x1 x2)

/-- The plane of scores: log-probability and noise. -/
abbrev score : FVec Ideal S224x224 .f32 := addf (lp x0 x1 x2) (shapeCast S224x224 x3 shapeCasts_S1x224x224_S224x224)

theorem lp_eq : k0_pay7 (k0_pay2 x0 x1) k0_pay3 k0_pay4 (k0_pay5 x0 x1) (k0_pay6 x0 x1) x2 = lp x0 x1 x2 := rfl

theorem mask_eq :
    k0_pay10 (k0_pay2 x0 x1) k0_pay3 k0_pay4 (k0_pay5 x0 x1) (k0_pay6 x0 x1) x2 x3 = mask (score x0 x1 x2 x3) := rfl

theorem out4_eq : out0_4 x0 x1 x2 x3 = shapeCast S1x224x224 (exp (lp x0 x1 x2)) shapeCasts_S224x224_S1x224x224 := by
  unfold_out out0_4
  frame_out
  unfold k0_pay8
  rw [lp_eq]

theorem out5_eq : out0_5 x0 x1 x2 x3 = k0_pay13 (lp x0 x1 x2) k0_pay9 (mask (score x0 x1 x2 x3)) k0_pay11 := by
  unfold_out out0_5
  frame_out
  rw [lp_eq, mask_eq]

theorem out6_eq : out0_6 x0 x1 x2 x3 =
    pair (extractAt ![0, 0, 0] (k0_pay12 k0_pay9 (mask (score x0 x1 x2 x3)) k0_pay11) inpos_S1x1x1_p0_0_0) := by
  unfold_out out0_6
  frame_out
  rw [mask_eq]
  unfold pair
  rfl

/-- What each store holds, the block's logits and its noise being given by position. -/
structure Holds (y g : Fin 50176 → EReal) : Prop where
  logit : row (plane x0 x1 x2) = y
  extra : ∀ h v, x3 (ix3 0 h v) = g (flat (h, v))

variable {x0 x1 x2 x3} {y g : Fin 50176 → EReal} (hb : Holds x0 x1 x2 x3 y g)
include hb

theorem lp_row : row (lp x0 x1 x2) = logSoft y := by
  funext k
  refine (softened_at (plane x0 x1 x2) (flat.symm k).1 (flat.symm k).2).trans ?_
  rw [hb.logit]
  exact congrArg (logSoft y) (flat.apply_symm_apply k)

theorem score_row : row (score x0 x1 x2 x3) = fun k => logSoft y k + g k := by
  funext k
  have e : shapeCast S224x224 x3 shapeCasts_S1x224x224_S224x224 (ix2 (flat.symm k).1 (flat.symm k).2) = g k := by
    have h := hb.extra (flat.symm k).1 (flat.symm k).2
    rw [Prod.mk.eta, flat.apply_symm_apply] at h
    rw [← h]
    generalize (flat.symm k).1 = a
    generalize (flat.symm k).2 = b
    pointwise
  rw [← e, ← lp_row hb]
  rfl

theorem out4_at (h v : Fin 224) : out0_4 x0 x1 x2 x3 (ix3 0 h v) = Ideal.exp (logSoft y (flat (h, v))) := by
  rw [out4_eq, ← lp_row hb, row_flat]
  generalize lp x0 x1 x2 = a
  pointwise

theorem out5_at : out0_5 x0 x1 x2 x3 (ix3 0 0 0) = logSoft y (first (n := 50175) fun k => logSoft y k + g k) := by
  rw [out5_eq, picked_at _ _ _ (found_at _), lp_row hb, score_row hb]

theorem out6_at (d : Fin 2) : out0_6 x0 x1 x2 x3 (ix3 0 0 d) =
    if d = 0 then BitVec.ofNat 32 ((first (n := 50175) fun k => logSoft y k + g k).val % 224)
    else BitVec.ofNat 32 ((first (n := 50175) fun k => logSoft y k + g k).val / 224) := by
  rw [out6_eq, found_at, score_row hb, pair_at]

end Stores

variable (m : (ℓ : Loc nD τ sig) → Buf (Elt Ideal) ℓ) (c : Dev nD)

/-! ## The arguments and the blocks -/

/-- The images. -/
def X (n : Fin 8) (ch : Fin 96) (h v : Fin 224) : EReal := (m ((c : Thread nD τ).loc main_arg0) : FVec Ideal S8x96x224x224 .f32) (ix4 n ch h v)
/-- The weights. -/
def W (ch : Fin 96) (i j : Fin 3) : EReal := (m ((c : Thread nD τ).loc main_arg1) : FVec Ideal S1x96x3x3 .f32) (ix4 0 ch i j)
/-- The bias. -/
def B : EReal := (m ((c : Thread nD τ).loc main_arg2) : FVec Ideal S1 .f32) (ix1 0)
/-- The noise. -/
def G (n : Fin 8) (k : Fin 50176) : EReal := Noise.noise (F := Ideal) (fun b => m (c, b)) (ix2 n k)

theorem idx : ∀ t : Fin cfg0.N, win0_0.index t = ![t.val, 0, 0, 0] ∧ win0_1.index t = ![0, 0] ∧ win0_2.index t = ![0, 0]
    ∧ win0_3.index t = ![t.val, 0, 0] ∧ win0_4.index t = ![t.val, 0, 0] ∧ win0_5.index t = ![t.val, 0, 0]
    ∧ win0_6.index t = ![t.val, 0, 0] :=
  (by decide +kernel : ∀ t : Fin grid0.N, _)

/-- The image of a grid point. -/
abbrev img (t : Fin cfg0.N) : Fin 8 := ⟨t.val, t.isLt⟩

/-! What a grid point's block holds of a whole array, window by window. -/

theorem read0 (a : FVec Ideal S8x96x224x224 .f32) (t : Fin cfg0.N) (ch : Fin 96) (h v : Fin 224) :
    (((cfg0.win 0).blk t).view.read (Elt Ideal) a : Vec Ideal S1x96x224x224 .f32) (ix4 0 ch h v) = a (ix4 (img t) ch h v) := by
  blk_ext [idx t]

theorem read1 (a : FVec Ideal S9x96 .f32) (t : Fin cfg0.N) (k : Fin 9) (ch : Fin 96) :
    (((cfg0.win 1).blk t).view.read (Elt Ideal) a : Vec Ideal S9x96 .f32) (ix2 k ch) = a (ix2 k ch) := by
  blk_ext [idx t]

theorem read2 (a : FVec Ideal S1x1 .f32) (t : Fin cfg0.N) :
    (((cfg0.win 2).blk t).view.read (Elt Ideal) a : Vec Ideal S1x1 .f32) (ix2 0 0) = a (ix2 0 0) := by
  blk_ext [idx t]

theorem read3 (a : FVec Ideal S8x224x224 .f32) (t : Fin cfg0.N) (h v : Fin 224) :
    (((cfg0.win 3).blk t).view.read (Elt Ideal) a : Vec Ideal S1x224x224 .f32) (ix3 0 h v) = a (ix3 (img t) h v) := by
  blk_ext [idx t]

theorem blk0 (t : Fin cfg0.N) (ch : Fin 96) (h v : Fin 224) :
    (iblk m c 0 t : Vec Ideal S1x96x224x224 .f32) (ix4 0 ch h v) = X m c (img t) ch h v := by
  unfold X
  exact (read0 _ t ch h v).trans (congrFun (V_main_arg0 m c) (ix4 (img t) ch h v))

theorem weights_at (w : FVec Ideal S1x96x3x3 .f32) (k : Fin 9) (ch : Fin 96) :
    transpose S9x96 [1, 0] (shapeCast S96x9 w shapeCasts_S1x96x3x3_S96x9) transposes_S96x9_S9x96_1_0 (ix2 k ch) =
      w (ix4 0 ch ⟨k.val / 3, by omega⟩ ⟨k.val % 3, by omega⟩) := by
  pointwise

theorem bias_at (b : FVec Ideal S1 .f32) : shapeCast S1x1 b shapeCasts_S1_S1x1 (ix2 0 0) = b (ix1 0) := by
  pointwise

/-- The weights as the region finds them: one row per offset. -/
theorem V_weights : (V m c main_call0_v1 : FVec Ideal S9x96 .f32) =
    transpose S9x96 [1, 0] (shapeCast S96x9 (m ((c : Thread nD τ).loc main_arg1) : FVec Ideal S1x96x3x3 .f32)
      shapeCasts_S1x96x3x3_S96x9) transposes_S96x9_S9x96_1_0 :=
  Noise.entered_early (fun b => m (c, b)) main_call0_v1 (by decide)

theorem V_bias : (V m c main_call0_v2 : FVec Ideal S1x1 .f32) =
    shapeCast S1x1 (m ((c : Thread nD τ).loc main_arg2) : FVec Ideal S1 .f32) shapeCasts_S1_S1x1 :=
  Noise.entered_early (fun b => m (c, b)) main_call0_v2 (by decide)

theorem noise_at (g : FVec Ideal S8x50176 .f32) (n : Fin 8) (h v : Fin 224) :
    shapeCast S8x224x224 g shapeCasts_S8x50176_S8x224x224 (ix3 n h v) = g (ix2 n (flat (h, v))) := by
  pointwise
  refine congrArg (fun k => g (ix2 n k)) (Fin.ext ?_)
  show h.val * 224 + v.val = 224 * h.val + v.val
  omega

/-- The noise as the region finds it: a plane per image. -/
theorem V_noise : (V m c main_call0_v11 : FVec Ideal S8x224x224 .f32) =
    shapeCast S8x224x224 (Noise.noise (F := Ideal) fun b => m (c, b)) shapeCasts_S8x50176_S8x224x224 :=
  Noise.entered_noise fun b => m (c, b)

theorem blk1 (t : Fin cfg0.N) (k : Fin 9) (ch : Fin 96) :
    (iblk m c 1 t : Vec Ideal S9x96 .f32) (ix2 k ch) = W m c ch ⟨k.val / 3, by omega⟩ ⟨k.val % 3, by omega⟩ := by
  unfold W
  exact (read1 _ t k ch).trans ((congrFun (V_weights m c) (ix2 k ch)).trans (weights_at _ k ch))

theorem blk2 (t : Fin cfg0.N) : (iblk m c 2 t : Vec Ideal S1x1 .f32) (ix2 0 0) = B m c := by
  unfold B
  exact (read2 _ t).trans ((congrFun (V_bias m c) (ix2 0 0)).trans (bias_at _))

theorem blk3 (t : Fin cfg0.N) (h v : Fin 224) :
    (iblk m c 3 t : Vec Ideal S1x224x224 .f32) (ix3 0 h v) = G m c (img t) (flat (h, v)) := by
  unfold G
  exact (read3 _ t h v).trans ((congrFun (V_noise m c) (ix3 (img t) h v)).trans (noise_at _ (img t) h v))

theorem holds (t : Fin cfg0.N) : Holds (iblk m c 0 t) (iblk m c 1 t) (iblk m c 2 t) (iblk m c 3 t)
    (logits (X m c) (W m c) (B m c) (img t)) (G m c (img t)) where
  logit := by
    funext k
    unfold row logits
    rw [plane_at, blk2]
    congr 1
    · funext ch h v
      exact blk0 m c t ch h v
    · funext ch i j
      refine (blk1 m c t _ ch).trans ?_
      congr 1 <;> exact Fin.ext (by dsimp only; omega)
  extra := blk3 m c t

/-! ## The arrays -/

/-- The probabilities, image by image. -/
theorem probs_eq : ((dats m 0 c).arrAt 4 (cfgs 0).N : FVec Ideal S8x224x224 .f32) =
    fun i => Ideal.exp (logSoft (logits (X m c) (W m c) (B m c) (i 0)) (flat (i 1, i 2))) := by
  refine (dats m 0 c).arrAt_eq_of_covers 4 _ (by decide +kernel) fun t hf y => ?_
  blk_simp
  rw [after0_4]
  have e : y = ix3 0 (y 1) (y 2) := by blk_ext
  have e0 : (win0_4.blk t).view.emb y 0 = img t := Fin.ext (by blk_simp [idx t])
  have e1 : (win0_4.blk t).view.emb y 1 = y 1 := Fin.ext (by blk_simp [idx t])
  have e2 : (win0_4.blk t).view.emb y 2 = y 2 := Fin.ext (by blk_simp [idx t])
  rw [e0, e1, e2]
  refine (congrArg (out0_4 (iblk m c 0 t) (iblk m c 1 t) (iblk m c 2 t) (iblk m c 3 t)) e).trans ?_
  exact out4_at (holds m c t) (y 1) (y 2)

/-- The log-probabilities of the drawn positions. -/
theorem picked_eq : ((dats m 0 c).arrAt 5 (cfgs 0).N : FVec Ideal S8x1x1 .f32) =
    fun i => logSoft (logits (X m c) (W m c) (B m c) (i 0)) (draw (X m c) (W m c) (B m c) (G m c) (i 0)) := by
  refine (dats m 0 c).arrAt_eq_of_covers 5 _ (by decide +kernel) fun t hf y => ?_
  blk_simp
  rw [after0_5]
  have e : y = ix3 0 0 0 := by blk_ext
  have e0 : (win0_5.blk t).view.emb y 0 = img t := Fin.ext (by blk_simp [idx t])
  rw [e0]
  refine (congrArg (out0_5 (iblk m c 0 t) (iblk m c 1 t) (iblk m c 2 t) (iblk m c 3 t)) e).trans ?_
  exact out5_at (holds m c t)

/-- The places of the drawn positions. -/
theorem places_eq : ((dats m 0 c).arrAt 6 (cfgs 0).N : IVec S8x1x2 32) =
    fun i => place (X m c) (W m c) (B m c) (G m c) (i 0) (i 2) := by
  refine (dats m 0 c).arrAt_eq_of_covers 6 _ (by decide +kernel) fun t hf y => ?_
  blk_simp
  rw [after0_6]
  have e : y = ix3 0 0 (y 2) := by blk_ext
  have e0 : (win0_6.blk t).view.emb y 0 = img t := Fin.ext (by blk_simp [idx t])
  have e2 : (win0_6.blk t).view.emb y 2 = y 2 := Fin.ext (by blk_simp [idx t])
  rw [e0, e2]
  refine (congrArg (out0_6 (iblk m c 0 t) (iblk m c 1 t) (iblk m c 2 t) (iblk m c 3 t)) e).trans ?_
  exact out6_at (holds m c t) (y 2)

/-! ## The results -/

theorem drop_last (a : IVec S8x1x2 32) (n : Fin 8) (d : Fin 2) :
    shapeCast S8x2 a shapeCasts_S8x1x2_S8x2 (ix2 n d) = a (ix3 n 0 d) := by
  pointwise

theorem drop_both (a : FVec Ideal S8x1x1 .f32) (n : Fin 8) :
    shapeCast S8 a shapeCasts_S8x1x1_S8 (ix1 n) = a (ix3 n 0 0) := by
  pointwise

theorem join (a : FVec Ideal S8x224x224 .f32) (n : Fin 8) (k : Fin 50176) :
    shapeCast S8x50176 a shapeCasts_S8x224x224_S8x50176 (ix2 n k) = a (ix3 n (flat.symm k).1 (flat.symm k).2) := by
  pointwise
  rfl

/-- The first result: where each image's position lies. -/
theorem result0 : (Pipeline.afterTail₀ cfgs (dats m) 0 (V0 m) [hostOps1] c main_v0_0 : IVec S8x2 32) =
    fun i => place (X m c) (W m c) (B m c) (G m c) (i 0) (i 1) := by
  refine Eq.trans (b := shapeCast S8x2 ((dats m 0 c).arrAt 6 (cfgs 0).N : IVec S8x1x2 32) shapeCasts_S8x1x2_S8x2) ?_ ?_
  · unfold Pipeline.afterTail₀
    rw [← Pipeline.withArrays_arr spec0 launch0.win.arr_inj c (V0 m c) (fun w => (dats m 0 c).arrAt w (cfgs 0).N) 6]
    rfl
  · rw [places_eq]
    funext i
    have e : i = ix2 (i 0) (i 1) := by blk_ext
    exact (congrArg _ e).trans (drop_last _ (i 0) (i 1))

/-- The second result: the log-probability of each image's position. -/
theorem result1 : (Pipeline.afterTail₀ cfgs (dats m) 0 (V0 m) [hostOps1] c main_v0_1 : FVec Ideal S8 .f32) =
    fun i => logSoft (logits (X m c) (W m c) (B m c) (i 0)) (draw (X m c) (W m c) (B m c) (G m c) (i 0)) := by
  refine Eq.trans (b := shapeCast S8 ((dats m 0 c).arrAt 5 (cfgs 0).N : FVec Ideal S8x1x1 .f32) shapeCasts_S8x1x1_S8) ?_ ?_
  · unfold Pipeline.afterTail₀
    rw [← Pipeline.withArrays_arr spec0 launch0.win.arr_inj c (V0 m c) (fun w => (dats m 0 c).arrAt w (cfgs 0).N) 5]
    rfl
  · rw [picked_eq]
    funext i
    have e : i = ix1 (i 0) := by blk_ext
    exact (congrArg _ e).trans (drop_both _ (i 0))

/-- The third result: every position's probability. -/
theorem result2 : (Pipeline.afterTail₀ cfgs (dats m) 0 (V0 m) [hostOps1] c main_v0_2 : FVec Ideal S8x50176 .f32) =
    fun i => Ideal.exp (logSoft (logits (X m c) (W m c) (B m c) (i 0)) (i 1)) := by
  refine Eq.trans (b := shapeCast S8x50176 ((dats m 0 c).arrAt 4 (cfgs 0).N : FVec Ideal S8x224x224 .f32)
    shapeCasts_S8x224x224_S8x50176) ?_ ?_
  · unfold Pipeline.afterTail₀
    rw [← Pipeline.withArrays_arr spec0 launch0.win.arr_inj c (V0 m c) (fun w => (dats m 0 c).arrAt w (cfgs 0).N) 4]
    rfl
  · rw [probs_eq]
    funext i
    have e : i = ix2 (i 0) (i 1) := by blk_ext
    refine (congrArg _ e).trans ((join _ (i 0) (i 1)).trans ?_)
    exact congrArg (fun k => Ideal.exp (logSoft (logits (X m c) (W m c) (B m c) (i 0)) k)) (flat.apply_symm_apply (i 1))

end Cert.Arrays
-- ==== Proof.KernelRun.lean ====
module

public import proofs.«01_k».proof.Proof.KernelArrays

@[expose] public section

set_option maxRecDepth 16384

/-! # The kernel's run

Every run of the kernel ends with its three results at the answer, its arguments unchanged. -/

noncomputable section

namespace Cert.Arrays
open Cert.KernelIdeal Cert.KernelIdeal.Gen Cert.Rows Cert.Answer
open Idealize.ShloMosaic Idealize.ShloMosaic.TcCoe Idealize.SL.Sem

variable (m : (ℓ : Loc nD τ sig) → Buf (Elt Ideal) ℓ) (ρ : Dev nD → PrngReg)

theorem runs : θ_run (defs (F := Ideal)) (onTc (τ := τ) (main (F := Ideal))) ⟨m, fun _ => 0, ρ⟩ fun r => ∀ c : Dev nD,
    r.2.mem ((c.tc : Thread nD τ).loc main_v0_0) =
        (fun i => place (X m c) (W m c) (B m c) (G m c) (i 0) (i 1) : IVec S8x2 32)
    ∧ r.2.mem ((c.tc : Thread nD τ).loc main_v0_1) =
        (fun i => logSoft (logits (X m c) (W m c) (B m c) (i 0)) (draw (X m c) (W m c) (B m c) (G m c) (i 0)) : FVec Ideal S8 .f32)
    ∧ r.2.mem ((c.tc : Thread nD τ).loc main_v0_2) =
        (fun i => Ideal.exp (logSoft (logits (X m c) (W m c) (B m c) (i 0)) (i 1)) : FVec Ideal S8x50176 .f32)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c =>
    ⟨((h c).2 main_v0_0 (Pipeline.mem_restRefs_of main_v0_0 (by decide) (by decide))).trans (result0 m c),
     ((h c).2 main_v0_1 (Pipeline.mem_restRefs_of main_v0_1 (by decide) (by decide))).trans (result1 m c),
     ((h c).2 main_v0_2 (Pipeline.mem_restRefs_of main_v0_2 (by decide) (by decide))).trans (result2 m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.Arrays
-- ==== Proof.RefRun.lean ====
/- The reference's run: @main as a list of its host operations (a called function's operations stand in its call's
   place), cut into windows of about thirty, and the run read back: every weakly fair execution terminates with each
   result at a term of the arguments' launch contents, the arguments unchanged. -/
module

public import proofs.«01_k».proof.Proof.Gen.ReferenceIdeal
public import proofs.«01_k».proof.Proof.Noise
public import Idealize.ShloMosaic.Lib.StableHlo.Run
public import Idealize.ShloMosaic.Lib.Pipeline.Frame

@[expose] public section

noncomputable section

namespace Cert.ReferenceIdeal.Value

open Cert.ReferenceIdeal Cert.ReferenceIdeal.Gen Cert.Noise Idealize.ShloMosaic Idealize.ShloMosaic.TcCoe Idealize.SL.Sem Idealize.ShloMosaic.StableHlo

variable {F : FTy → Type} [FloatOps F]

/-- What `main_v76`'s operation does with its two columns: it sets them side by side. -/
def fn_main_v76 : (⟨S8x1, .i32⟩ : BufTy).Contents (Elt F) → (⟨S8x1, .i32⟩ : BufTy).Contents (Elt F) → (⟨S8x2, .i32⟩ : BufTy).Contents (Elt F) :=
  (fun a b => concatenate S8x2 1 [⟨S8x1, a⟩, ⟨S8x1, b⟩] concatenates_S8x1_S8x1_S8x2_d1)

/-- What `main_v90`'s operation does with its two columns: it sets them side by side. -/
def fn_main_v90 : (⟨S8x1, .i32⟩ : BufTy).Contents (Elt F) → (⟨S8x1, .i32⟩ : BufTy).Contents (Elt F) → (⟨S8x2, .i32⟩ : BufTy).Contents (Elt F) :=
  (fun a b => concatenate S8x2 1 [⟨S8x1, a⟩, ⟨S8x1, b⟩] concatenates_S8x1_S8x1_S8x2_d1)

/-- @main's operations 1 … 30 (window `main_part0`). -/
abbrev ops_part0_0 : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S8x96x224x224, .f32⟩) main_arg0) (TRef.of (T := ⟨S_, .f32⟩) main_call0_v0) (TRef.of (T := ⟨S8x96x226x226, .f32⟩) main_v0) (fun x v => pad S8x96x226x226 ![0, 0, 1, 1] ![0, 0, 1, 1] ![0, 0, 0, 0] x v pads_S8x96x224x224_S8x96x226x226_000_000_110_110 h_S_),
    unary main_v0 main_v1 ((extractStridedSlice S8x96x224x224 ![0, 0, 0, 0] · slices_S8x96x226x226_S8x96x224x224_0_0_0_0) : (⟨S8x96x226x226, .f32⟩ : BufTy).Contents (Elt F) → (⟨S8x96x224x224, .f32⟩ : BufTy).Contents (Elt F)),
    unary main_arg1 main_v2 ((extractStridedSlice S1x96x1x1 ![0, 0, 0, 0] · slices_S1x96x3x3_S1x96x1x1_0_0_0_0) : (⟨S1x96x3x3, .f32⟩ : BufTy).Contents (Elt F) → (⟨S1x96x1x1, .f32⟩ : BufTy).Contents (Elt F)),
    reshape main_v2 main_v3 (rfl : (.f32 : EltTy) = .f32) shapeCasts_S1x96x1x1_S1x96,
    binary main_v3 main_v1 main_v4 ((fun l r => Host.dotGeneral dot_S1x96_S8x96x224x224_S1x8x224x224_1_1_0_023_n_n none l r) : (⟨S1x96, .f32⟩ : BufTy).Contents (Elt F) → (⟨S8x96x224x224, .f32⟩ : BufTy).Contents (Elt F) → (⟨S1x8x224x224, .f32⟩ : BufTy).Contents (Elt F)),
    unary main_v4 main_v5 ((transpose S8x1x224x224 [1, 0, 2, 3] · transposes_S1x8x224x224_S8x1x224x224_1_0_2_3) : (⟨S1x8x224x224, .f32⟩ : BufTy).Contents (Elt F) → (⟨S8x1x224x224, .f32⟩ : BufTy).Contents (Elt F)),
    nullary main_cst (constant S_ .f32 0x00000000#32),
    unary main_cst main_v6 (broadcastInDim S8x1x224x224 ![] bcast_S_S8x1x224x224 : (⟨S_, .f32⟩ : BufTy).Contents (Elt F) → (⟨S8x1x224x224, .f32⟩ : BufTy).Contents (Elt F)),
    binary main_v6 main_v5 main_v7 (addf : (⟨S8x1x224x224, .f32⟩ : BufTy).Contents (Elt F) → (⟨S8x1x224x224, .f32⟩ : BufTy).Contents (Elt F) → (⟨S8x1x224x224, .f32⟩ : BufTy).Contents (Elt F)),
    unary main_v0 main_v8 ((extractStridedSlice S8x96x224x224 ![0, 0, 0, 1] · slices_S8x96x226x226_S8x96x224x224_0_0_0_1) : (⟨S8x96x226x226, .f32⟩ : BufTy).Contents (Elt F) → (⟨S8x96x224x224, .f32⟩ : BufTy).Contents (Elt F)),
    unary main_arg1 main_v9 ((extractStridedSlice S1x96x1x1 ![0, 0, 0, 1] · slices_S1x96x3x3_S1x96x1x1_0_0_0_1) : (⟨S1x96x3x3, .f32⟩ : BufTy).Contents (Elt F) → (⟨S1x96x1x1, .f32⟩ : BufTy).Contents (Elt F)),
    reshape main_v9 main_v10 (rfl : (.f32 : EltTy) = .f32) shapeCasts_S1x96x1x1_S1x96,
    binary main_v10 main_v8 main_v11 ((fun l r => Host.dotGeneral dot_S1x96_S8x96x224x224_S1x8x224x224_1_1_0_023_n_n none l r) : (⟨S1x96, .f32⟩ : BufTy).Contents (Elt F) → (⟨S8x96x224x224, .f32⟩ : BufTy).Contents (Elt F) → (⟨S1x8x224x224, .f32⟩ : BufTy).Contents (Elt F)),
    unary main_v11 main_v12 ((transpose S8x1x224x224 [1, 0, 2, 3] · transposes_S1x8x224x224_S8x1x224x224_1_0_2_3) : (⟨S1x8x224x224, .f32⟩ : BufTy).Contents (Elt F) → (⟨S8x1x224x224, .f32⟩ : BufTy).Contents (Elt F)),
    binary main_v7 main_v12 main_v13 (addf : (⟨S8x1x224x224, .f32⟩ : BufTy).Contents (Elt F) → (⟨S8x1x224x224, .f32⟩ : BufTy).Contents (Elt F) → (⟨S8x1x224x224, .f32⟩ : BufTy).Contents (Elt F)),
    unary main_v0 main_v14 ((extractStridedSlice S8x96x224x224 ![0, 0, 0, 2] · slices_S8x96x226x226_S8x96x224x224_0_0_0_2) : (⟨S8x96x226x226, .f32⟩ : BufTy).Contents (Elt F) → (⟨S8x96x224x224, .f32⟩ : BufTy).Contents (Elt F)),
    unary main_arg1 main_v15 ((extractStridedSlice S1x96x1x1 ![0, 0, 0, 2] · slices_S1x96x3x3_S1x96x1x1_0_0_0_2) : (⟨S1x96x3x3, .f32⟩ : BufTy).Contents (Elt F) → (⟨S1x96x1x1, .f32⟩ : BufTy).Contents (Elt F)),
    reshape main_v15 main_v16 (rfl : (.f32 : EltTy) = .f32) shapeCasts_S1x96x1x1_S1x96,
    binary main_v16 main_v14 main_v17 ((fun l r => Host.dotGeneral dot_S1x96_S8x96x224x224_S1x8x224x224_1_1_0_023_n_n none l r) : (⟨S1x96, .f32⟩ : BufTy).Contents (Elt F) → (⟨S8x96x224x224, .f32⟩ : BufTy).Contents (Elt F) → (⟨S1x8x224x224, .f32⟩ : BufTy).Contents (Elt F)),
    unary main_v17 main_v18 ((transpose S8x1x224x224 [1, 0, 2, 3] · transposes_S1x8x224x224_S8x1x224x224_1_0_2_3) : (⟨S1x8x224x224, .f32⟩ : BufTy).Contents (Elt F) → (⟨S8x1x224x224, .f32⟩ : BufTy).Contents (Elt F)),
    binary main_v13 main_v18 main_v19 (addf : (⟨S8x1x224x224, .f32⟩ : BufTy).Contents (Elt F) → (⟨S8x1x224x224, .f32⟩ : BufTy).Contents (Elt F) → (⟨S8x1x224x224, .f32⟩ : BufTy).Contents (Elt F)),
    unary main_v0 main_v20 ((extractStridedSlice S8x96x224x224 ![0, 0, 1, 0] · slices_S8x96x226x226_S8x96x224x224_0_0_1_0) : (⟨S8x96x226x226, .f32⟩ : BufTy).Contents (Elt F) → (⟨S8x96x224x224, .f32⟩ : BufTy).Contents (Elt F)),
    unary main_arg1 main_v21 ((extractStridedSlice S1x96x1x1 ![0, 0, 1, 0] · slices_S1x96x3x3_S1x96x1x1_0_0_1_0) : (⟨S1x96x3x3, .f32⟩ : BufTy).Contents (Elt F) → (⟨S1x96x1x1, .f32⟩ : BufTy).Contents (Elt F)),
    reshape main_v21 main_v22 (rfl : (.f32 : EltTy) = .f32) shapeCasts_S1x96x1x1_S1x96,
    binary main_v22 main_v20 main_v23 ((fun l r => Host.dotGeneral dot_S1x96_S8x96x224x224_S1x8x224x224_1_1_0_023_n_n none l r) : (⟨S1x96, .f32⟩ : BufTy).Contents (Elt F) → (⟨S8x96x224x224, .f32⟩ : BufTy).Contents (Elt F) → (⟨S1x8x224x224, .f32⟩ : BufTy).Contents (Elt F)),
    unary main_v23 main_v24 ((transpose S8x1x224x224 [1, 0, 2, 3] · transposes_S1x8x224x224_S8x1x224x224_1_0_2_3) : (⟨S1x8x224x224, .f32⟩ : BufTy).Contents (Elt F) → (⟨S8x1x224x224, .f32⟩ : BufTy).Contents (Elt F)),
    binary main_v19 main_v24 main_v25 (addf : (⟨S8x1x224x224, .f32⟩ : BufTy).Contents (Elt F) → (⟨S8x1x224x224, .f32⟩ : BufTy).Contents (Elt F) → (⟨S8x1x224x224, .f32⟩ : BufTy).Contents (Elt F)),
    unary main_v0 main_v26 ((extractStridedSlice S8x96x224x224 ![0, 0, 1, 1] · slices_S8x96x226x226_S8x96x224x224_0_0_1_1) : (⟨S8x96x226x226, .f32⟩ : BufTy).Contents (Elt F) → (⟨S8x96x224x224, .f32⟩ : BufTy).Contents (Elt F)) ]

/-- @main's operations 31 … 60 (window `main_part0`). -/
abbrev ops_part0_1 : List (HloOp τ sig (Elt F)) :=
  [ unary main_arg1 main_v27 ((extractStridedSlice S1x96x1x1 ![0, 0, 1, 1] · slices_S1x96x3x3_S1x96x1x1_0_0_1_1) : (⟨S1x96x3x3, .f32⟩ : BufTy).Contents (Elt F) → (⟨S1x96x1x1, .f32⟩ : BufTy).Contents (Elt F)),
    reshape main_v27 main_v28 (rfl : (.f32 : EltTy) = .f32) shapeCasts_S1x96x1x1_S1x96,
    binary main_v28 main_v26 main_v29 ((fun l r => Host.dotGeneral dot_S1x96_S8x96x224x224_S1x8x224x224_1_1_0_023_n_n none l r) : (⟨S1x96, .f32⟩ : BufTy).Contents (Elt F) → (⟨S8x96x224x224, .f32⟩ : BufTy).Contents (Elt F) → (⟨S1x8x224x224, .f32⟩ : BufTy).Contents (Elt F)),
    unary main_v29 main_v30 ((transpose S8x1x224x224 [1, 0, 2, 3] · transposes_S1x8x224x224_S8x1x224x224_1_0_2_3) : (⟨S1x8x224x224, .f32⟩ : BufTy).Contents (Elt F) → (⟨S8x1x224x224, .f32⟩ : BufTy).Contents (Elt F)),
    binary main_v25 main_v30 main_v31 (addf : (⟨S8x1x224x224, .f32⟩ : BufTy).Contents (Elt F) → (⟨S8x1x224x224, .f32⟩ : BufTy).Contents (Elt F) → (⟨S8x1x224x224, .f32⟩ : BufTy).Contents (Elt F)),
    unary main_v0 main_v32 ((extractStridedSlice S8x96x224x224 ![0, 0, 1, 2] · slices_S8x96x226x226_S8x96x224x224_0_0_1_2) : (⟨S8x96x226x226, .f32⟩ : BufTy).Contents (Elt F) → (⟨S8x96x224x224, .f32⟩ : BufTy).Contents (Elt F)),
    unary main_arg1 main_v33 ((extractStridedSlice S1x96x1x1 ![0, 0, 1, 2] · slices_S1x96x3x3_S1x96x1x1_0_0_1_2) : (⟨S1x96x3x3, .f32⟩ : BufTy).Contents (Elt F) → (⟨S1x96x1x1, .f32⟩ : BufTy).Contents (Elt F)),
    reshape main_v33 main_v34 (rfl : (.f32 : EltTy) = .f32) shapeCasts_S1x96x1x1_S1x96,
    binary main_v34 main_v32 main_v35 ((fun l r => Host.dotGeneral dot_S1x96_S8x96x224x224_S1x8x224x224_1_1_0_023_n_n none l r) : (⟨S1x96, .f32⟩ : BufTy).Contents (Elt F) → (⟨S8x96x224x224, .f32⟩ : BufTy).Contents (Elt F) → (⟨S1x8x224x224, .f32⟩ : BufTy).Contents (Elt F)),
    unary main_v35 main_v36 ((transpose S8x1x224x224 [1, 0, 2, 3] · transposes_S1x8x224x224_S8x1x224x224_1_0_2_3) : (⟨S1x8x224x224, .f32⟩ : BufTy).Contents (Elt F) → (⟨S8x1x224x224, .f32⟩ : BufTy).Contents (Elt F)),
    binary main_v31 main_v36 main_v37 (addf : (⟨S8x1x224x224, .f32⟩ : BufTy).Contents (Elt F) → (⟨S8x1x224x224, .f32⟩ : BufTy).Contents (Elt F) → (⟨S8x1x224x224, .f32⟩ : BufTy).Contents (Elt F)),
    unary main_v0 main_v38 ((extractStridedSlice S8x96x224x224 ![0, 0, 2, 0] · slices_S8x96x226x226_S8x96x224x224_0_0_2_0) : (⟨S8x96x226x226, .f32⟩ : BufTy).Contents (Elt F) → (⟨S8x96x224x224, .f32⟩ : BufTy).Contents (Elt F)),
    unary main_arg1 main_v39 ((extractStridedSlice S1x96x1x1 ![0, 0, 2, 0] · slices_S1x96x3x3_S1x96x1x1_0_0_2_0) : (⟨S1x96x3x3, .f32⟩ : BufTy).Contents (Elt F) → (⟨S1x96x1x1, .f32⟩ : BufTy).Contents (Elt F)),
    reshape main_v39 main_v40 (rfl : (.f32 : EltTy) = .f32) shapeCasts_S1x96x1x1_S1x96,
    binary main_v40 main_v38 main_v41 ((fun l r => Host.dotGeneral dot_S1x96_S8x96x224x224_S1x8x224x224_1_1_0_023_n_n none l r) : (⟨S1x96, .f32⟩ : BufTy).Contents (Elt F) → (⟨S8x96x224x224, .f32⟩ : BufTy).Contents (Elt F) → (⟨S1x8x224x224, .f32⟩ : BufTy).Contents (Elt F)),
    unary main_v41 main_v42 ((transpose S8x1x224x224 [1, 0, 2, 3] · transposes_S1x8x224x224_S8x1x224x224_1_0_2_3) : (⟨S1x8x224x224, .f32⟩ : BufTy).Contents (Elt F) → (⟨S8x1x224x224, .f32⟩ : BufTy).Contents (Elt F)),
    binary main_v37 main_v42 main_v43 (addf : (⟨S8x1x224x224, .f32⟩ : BufTy).Contents (Elt F) → (⟨S8x1x224x224, .f32⟩ : BufTy).Contents (Elt F) → (⟨S8x1x224x224, .f32⟩ : BufTy).Contents (Elt F)),
    unary main_v0 main_v44 ((extractStridedSlice S8x96x224x224 ![0, 0, 2, 1] · slices_S8x96x226x226_S8x96x224x224_0_0_2_1) : (⟨S8x96x226x226, .f32⟩ : BufTy).Contents (Elt F) → (⟨S8x96x224x224, .f32⟩ : BufTy).Contents (Elt F)),
    unary main_arg1 main_v45 ((extractStridedSlice S1x96x1x1 ![0, 0, 2, 1] · slices_S1x96x3x3_S1x96x1x1_0_0_2_1) : (⟨S1x96x3x3, .f32⟩ : BufTy).Contents (Elt F) → (⟨S1x96x1x1, .f32⟩ : BufTy).Contents (Elt F)),
    reshape main_v45 main_v46 (rfl : (.f32 : EltTy) = .f32) shapeCasts_S1x96x1x1_S1x96,
    binary main_v46 main_v44 main_v47 ((fun l r => Host.dotGeneral dot_S1x96_S8x96x224x224_S1x8x224x224_1_1_0_023_n_n none l r) : (⟨S1x96, .f32⟩ : BufTy).Contents (Elt F) → (⟨S8x96x224x224, .f32⟩ : BufTy).Contents (Elt F) → (⟨S1x8x224x224, .f32⟩ : BufTy).Contents (Elt F)),
    unary main_v47 main_v48 ((transpose S8x1x224x224 [1, 0, 2, 3] · transposes_S1x8x224x224_S8x1x224x224_1_0_2_3) : (⟨S1x8x224x224, .f32⟩ : BufTy).Contents (Elt F) → (⟨S8x1x224x224, .f32⟩ : BufTy).Contents (Elt F)),
    binary main_v43 main_v48 main_v49 (addf : (⟨S8x1x224x224, .f32⟩ : BufTy).Contents (Elt F) → (⟨S8x1x224x224, .f32⟩ : BufTy).Contents (Elt F) → (⟨S8x1x224x224, .f32⟩ : BufTy).Contents (Elt F)),
    unary main_v0 main_v50 ((extractStridedSlice S8x96x224x224 ![0, 0, 2, 2] · slices_S8x96x226x226_S8x96x224x224_0_0_2_2) : (⟨S8x96x226x226, .f32⟩ : BufTy).Contents (Elt F) → (⟨S8x96x224x224, .f32⟩ : BufTy).Contents (Elt F)),
    unary main_arg1 main_v51 ((extractStridedSlice S1x96x1x1 ![0, 0, 2, 2] · slices_S1x96x3x3_S1x96x1x1_0_0_2_2) : (⟨S1x96x3x3, .f32⟩ : BufTy).Contents (Elt F) → (⟨S1x96x1x1, .f32⟩ : BufTy).Contents (Elt F)),
    reshape main_v51 main_v52 (rfl : (.f32 : EltTy) = .f32) shapeCasts_S1x96x1x1_S1x96,
    binary main_v52 main_v50 main_v53 ((fun l r => Host.dotGeneral dot_S1x96_S8x96x224x224_S1x8x224x224_1_1_0_023_n_n none l r) : (⟨S1x96, .f32⟩ : BufTy).Contents (Elt F) → (⟨S8x96x224x224, .f32⟩ : BufTy).Contents (Elt F) → (⟨S1x8x224x224, .f32⟩ : BufTy).Contents (Elt F)),
    unary main_v53 main_v54 ((transpose S8x1x224x224 [1, 0, 2, 3] · transposes_S1x8x224x224_S8x1x224x224_1_0_2_3) : (⟨S1x8x224x224, .f32⟩ : BufTy).Contents (Elt F) → (⟨S8x1x224x224, .f32⟩ : BufTy).Contents (Elt F)),
    binary main_v49 main_v54 main_v55 (addf : (⟨S8x1x224x224, .f32⟩ : BufTy).Contents (Elt F) → (⟨S8x1x224x224, .f32⟩ : BufTy).Contents (Elt F) → (⟨S8x1x224x224, .f32⟩ : BufTy).Contents (Elt F)),
    reshape main_arg2 main_v56 (rfl : (.f32 : EltTy) = .f32) shapeCasts_S1_S1x1x1x1 ]

/-- @main's operations 61 … 61 (window `main_part0`). -/
abbrev ops_part0_2 : List (HloOp τ sig (Elt F)) :=
  [ unary main_v56 main_v57 (broadcastInDim S8x1x224x224 ![0, 1, 2, 3] bcast_S1x1x1x1_S8x1x224x224_0_1_2_3 : (⟨S1x1x1x1, .f32⟩ : BufTy).Contents (Elt F) → (⟨S8x1x224x224, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 62 … 79 (window `main_part1`, before the noise). -/
abbrev ops_part1_0a : List (HloOp τ sig (Elt F)) :=
  [ binary main_v55 main_v57 main_v58 (addf : (⟨S8x1x224x224, .f32⟩ : BufTy).Contents (Elt F) → (⟨S8x1x224x224, .f32⟩ : BufTy).Contents (Elt F) → (⟨S8x1x224x224, .f32⟩ : BufTy).Contents (Elt F)),
    reshape main_v58 main_v59 (rfl : (.f32 : EltTy) = .f32) shapeCasts_S8x1x224x224_S8x50176,
    TRef.nullary (TRef.of (T := ⟨S_, .f32⟩) main_call1_cst) (constant S_ .f32 0xFF800000#32),
    TRef.binary (TRef.of (T := ⟨S8x50176, .f32⟩) main_v59) (TRef.of (T := ⟨S_, .f32⟩) main_call1_cst) (TRef.of (T := ⟨S8, .f32⟩) main_call1_v0) (fun x v => Host.reduce FloatOps.maximumf x v reducesTo_S8x50176_S8_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S8, .f32⟩) main_call1_v1) (broadcastInDim S8 ![] bcast_S_S8),
    TRef.binary (TRef.of (T := ⟨S8, .f32⟩) main_call1_v1) (TRef.of (T := ⟨S8, .f32⟩) main_call1_v0) (TRef.of (T := ⟨S8, .f32⟩) main_call1_v2) maximumf,
    TRef.unary (TRef.of (T := ⟨S8, .f32⟩) main_call1_v2) (TRef.of (T := ⟨S8x1, .f32⟩) main_call1_v3) (broadcastInDim S8x1 ![0] bcast_S8_S8x1_0),
    TRef.unary (TRef.of (T := ⟨S8x1, .f32⟩) main_call1_v3) (TRef.of (T := ⟨S8x50176, .f32⟩) main_call1_v4) (broadcastInDim S8x50176 ![0, 1] bcast_S8x1_S8x50176_0_1),
    TRef.binary (TRef.of (T := ⟨S8x50176, .f32⟩) main_v59) (TRef.of (T := ⟨S8x50176, .f32⟩) main_call1_v4) (TRef.of (T := ⟨S8x50176, .f32⟩) main_call1_v5) subf,
    TRef.unary (TRef.of (T := ⟨S8x50176, .f32⟩) main_call1_v5) (TRef.of (T := ⟨S8x50176, .f32⟩) main_call1_v6) Host.exp,
    TRef.nullary (TRef.of (T := ⟨S_, .f32⟩) main_call1_cst_1) (constant S_ .f32 0x00000000#32),
    TRef.binary (TRef.of (T := ⟨S8x50176, .f32⟩) main_call1_v6) (TRef.of (T := ⟨S_, .f32⟩) main_call1_cst_1) (TRef.of (T := ⟨S8, .f32⟩) main_call1_v7) (fun x v => Host.reduceAdd x v reducesTo_S8x50176_S8_d1 h_S_),
    TRef.unary (TRef.of (T := ⟨S8, .f32⟩) main_call1_v7) (TRef.of (T := ⟨S8x1, .f32⟩) main_call1_v8) (broadcastInDim S8x1 ![0] bcast_S8_S8x1_0),
    TRef.unary (TRef.of (T := ⟨S8x1, .f32⟩) main_call1_v8) (TRef.of (T := ⟨S8x1, .f32⟩) main_call1_v9) Host.log,
    TRef.unary (TRef.of (T := ⟨S8x1, .f32⟩) main_call1_v9) (TRef.of (T := ⟨S8x50176, .f32⟩) main_call1_v10) (broadcastInDim S8x50176 ![0, 1] bcast_S8x1_S8x50176_0_1),
    TRef.binary (TRef.of (T := ⟨S8x50176, .f32⟩) main_call1_v5) (TRef.of (T := ⟨S8x50176, .f32⟩) main_call1_v10) (TRef.of (T := ⟨S8x50176, .f32⟩) main_v60) subf,
    unary main_v60 main_v61 (Host.exp : (⟨S8x50176, .f32⟩ : BufTy).Contents (Elt F) → (⟨S8x50176, .f32⟩ : BufTy).Contents (Elt F)) ]

/-- @main's next 277 operations: the noise. -/
abbrev ops_part1_0n : List (HloOp τ sig (Elt F)) := inReference.ops code

/-- @main's operations 357 … 370, after the noise. -/
abbrev ops_part1_0b : List (HloOp τ sig (Elt F)) :=
  [ binary main_v69 main_v60 main_v70 (addf : (⟨S8x50176, .f32⟩ : BufTy).Contents (Elt F) → (⟨S8x50176, .f32⟩ : BufTy).Contents (Elt F) → (⟨S8x50176, .f32⟩ : BufTy).Contents (Elt F)),
    TRef.nullary (TRef.of (T := ⟨S8x50176, .i32⟩) main_call3_v0) (iotaInDim S8x50176 32 1),
    TRef.nullary (TRef.of (T := ⟨S_, .f32⟩) main_call3_cst) (constant S_ .f32 0xFF800000#32),
    TRef.nullary (TRef.of (T := ⟨S_, .i32⟩) main_call3_c) (constantI S_ 32 0#32),
    TRef.quaternary (TRef.of (T := ⟨S8x50176, .f32⟩) main_v70) (TRef.of (T := ⟨S8x50176, .i32⟩) main_call3_v0) (TRef.of (T := ⟨S_, .f32⟩) main_call3_cst) (TRef.of (T := ⟨S_, .i32⟩) main_call3_c) (TRef.of (T := ⟨S8, .f32⟩) main_call3_v1_0) (fun x y u v j => (Host.argReduce reducer_argmax_f32_i32 x y u v reducesTo_S8x50176_S8_d1 h_S_ j).1),
    TRef.quaternary (TRef.of (T := ⟨S8x50176, .f32⟩) main_v70) (TRef.of (T := ⟨S8x50176, .i32⟩) main_call3_v0) (TRef.of (T := ⟨S_, .f32⟩) main_call3_cst) (TRef.of (T := ⟨S_, .i32⟩) main_call3_c) (TRef.of (T := ⟨S8, .i32⟩) main_v71) (fun x y u v j => (Host.argReduce reducer_argmax_f32_i32 x y u v reducesTo_S8x50176_S8_d1 h_S_ j).2),
    nullary main_c_3 (constantI S_ 32 224#32),
    TRef.unary (TRef.of (T := ⟨S_, .i32⟩) main_c_3) (TRef.of (T := ⟨S_, .i32⟩) main_call4_v0) id,
    TRef.nullary (TRef.of (T := ⟨S_, .i32⟩) main_call4_c) (constantI S_ 32 0#32),
    TRef.binary (TRef.of (T := ⟨S_, .i32⟩) main_call4_v0) (TRef.of (T := ⟨S_, .i32⟩) main_call4_c) (TRef.of (T := ⟨S_, .i1⟩) main_call4_v1) (cmpi .eq),
    TRef.nullary (TRef.of (T := ⟨S_, .i32⟩) main_call4_c_0) (constantI S_ 32 1#32),
    TRef.ternary (TRef.of (T := ⟨S_, .i1⟩) main_call4_v1) (TRef.of (T := ⟨S_, .i32⟩) main_call4_c_0) (TRef.of (T := ⟨S_, .i32⟩) main_call4_v0) (TRef.of (T := ⟨S_, .i32⟩) main_call4_v2) select,
    TRef.unary (TRef.of (T := ⟨S_, .i32⟩) main_call4_v2) (TRef.of (T := ⟨S8, .i32⟩) main_call4_v3) (broadcastInDim S8 ![] bcast_S_S8),
    TRef.binary (TRef.of (T := ⟨S8, .i32⟩) main_v71) (TRef.of (T := ⟨S8, .i32⟩) main_call4_v3) (TRef.of (T := ⟨S8, .i32⟩) main_call4_v4) Host.remsi ]

/-- @main's operations 371 … 400 (window `main_part1`). -/
abbrev ops_part1_1 : List (HloOp τ sig (Elt F)) :=
  [ TRef.nullary (TRef.of (T := ⟨S_, .i32⟩) main_call4_c_1) (constantI S_ 32 0#32),
    TRef.unary (TRef.of (T := ⟨S_, .i32⟩) main_call4_c_1) (TRef.of (T := ⟨S8, .i32⟩) main_call4_v5) (broadcastInDim S8 ![] bcast_S_S8),
    TRef.binary (TRef.of (T := ⟨S8, .i32⟩) main_call4_v4) (TRef.of (T := ⟨S8, .i32⟩) main_call4_v5) (TRef.of (T := ⟨S8, .i1⟩) main_call4_v6) (cmpi .ne),
    TRef.nullary (TRef.of (T := ⟨S_, .i32⟩) main_call4_c_2) (constantI S_ 32 0#32),
    TRef.unary (TRef.of (T := ⟨S_, .i32⟩) main_call4_c_2) (TRef.of (T := ⟨S8, .i32⟩) main_call4_v7) (broadcastInDim S8 ![] bcast_S_S8),
    TRef.binary (TRef.of (T := ⟨S8, .i32⟩) main_call4_v4) (TRef.of (T := ⟨S8, .i32⟩) main_call4_v7) (TRef.of (T := ⟨S8, .i1⟩) main_call4_v8) (cmpi .slt),
    TRef.nullary (TRef.of (T := ⟨S_, .i32⟩) main_call4_c_3) (constantI S_ 32 0#32),
    TRef.binary (TRef.of (T := ⟨S_, .i32⟩) main_call4_v2) (TRef.of (T := ⟨S_, .i32⟩) main_call4_c_3) (TRef.of (T := ⟨S_, .i1⟩) main_call4_v9) (cmpi .slt),
    TRef.unary (TRef.of (T := ⟨S_, .i1⟩) main_call4_v9) (TRef.of (T := ⟨S8, .i1⟩) main_call4_v10) (broadcastInDim S8 ![] bcast_S_S8),
    TRef.binary (TRef.of (T := ⟨S8, .i1⟩) main_call4_v8) (TRef.of (T := ⟨S8, .i1⟩) main_call4_v10) (TRef.of (T := ⟨S8, .i1⟩) main_call4_v11) (cmpi .ne),
    TRef.binary (TRef.of (T := ⟨S8, .i1⟩) main_call4_v11) (TRef.of (T := ⟨S8, .i1⟩) main_call4_v6) (TRef.of (T := ⟨S8, .i1⟩) main_call4_v12) andi,
    TRef.unary (TRef.of (T := ⟨S_, .i32⟩) main_call4_v2) (TRef.of (T := ⟨S8, .i32⟩) main_call4_v13) (broadcastInDim S8 ![] bcast_S_S8),
    TRef.binary (TRef.of (T := ⟨S8, .i32⟩) main_call4_v4) (TRef.of (T := ⟨S8, .i32⟩) main_call4_v13) (TRef.of (T := ⟨S8, .i32⟩) main_call4_v14) addi,
    TRef.ternary (TRef.of (T := ⟨S8, .i1⟩) main_call4_v12) (TRef.of (T := ⟨S8, .i32⟩) main_call4_v14) (TRef.of (T := ⟨S8, .i32⟩) main_call4_v4) (TRef.of (T := ⟨S8, .i32⟩) main_v72) select,
    nullary main_c_4 (constantI S_ 32 224#32),
    TRef.unary (TRef.of (T := ⟨S_, .i32⟩) main_c_4) (TRef.of (T := ⟨S_, .i32⟩) main_call5_v0) id,
    TRef.unary (TRef.of (T := ⟨S_, .i32⟩) main_call5_v0) (TRef.of (T := ⟨S8, .i32⟩) main_call5_v1) (broadcastInDim S8 ![] bcast_S_S8),
    TRef.binary (TRef.of (T := ⟨S8, .i32⟩) main_v71) (TRef.of (T := ⟨S8, .i32⟩) main_call5_v1) (TRef.of (T := ⟨S8, .i32⟩) main_call5_v2) Host.divsi,
    TRef.unary (TRef.of (T := ⟨S8, .i32⟩) main_v71) (TRef.of (T := ⟨S8, .i32⟩) main_call5_v3) signi,
    TRef.unary (TRef.of (T := ⟨S_, .i32⟩) main_call5_v0) (TRef.of (T := ⟨S_, .i32⟩) main_call5_v4) signi,
    TRef.unary (TRef.of (T := ⟨S_, .i32⟩) main_call5_v4) (TRef.of (T := ⟨S8, .i32⟩) main_call5_v5) (broadcastInDim S8 ![] bcast_S_S8),
    TRef.binary (TRef.of (T := ⟨S8, .i32⟩) main_call5_v3) (TRef.of (T := ⟨S8, .i32⟩) main_call5_v5) (TRef.of (T := ⟨S8, .i1⟩) main_call5_v6) (cmpi .ne),
    TRef.unary (TRef.of (T := ⟨S_, .i32⟩) main_call5_v0) (TRef.of (T := ⟨S8, .i32⟩) main_call5_v7) (broadcastInDim S8 ![] bcast_S_S8),
    TRef.binary (TRef.of (T := ⟨S8, .i32⟩) main_v71) (TRef.of (T := ⟨S8, .i32⟩) main_call5_v7) (TRef.of (T := ⟨S8, .i32⟩) main_call5_v8) Host.remsi,
    TRef.nullary (TRef.of (T := ⟨S_, .i32⟩) main_call5_c) (constantI S_ 32 0#32),
    TRef.unary (TRef.of (T := ⟨S_, .i32⟩) main_call5_c) (TRef.of (T := ⟨S8, .i32⟩) main_call5_v9) (broadcastInDim S8 ![] bcast_S_S8),
    TRef.binary (TRef.of (T := ⟨S8, .i32⟩) main_call5_v8) (TRef.of (T := ⟨S8, .i32⟩) main_call5_v9) (TRef.of (T := ⟨S8, .i1⟩) main_call5_v10) (cmpi .ne),
    TRef.binary (TRef.of (T := ⟨S8, .i1⟩) main_call5_v6) (TRef.of (T := ⟨S8, .i1⟩) main_call5_v10) (TRef.of (T := ⟨S8, .i1⟩) main_call5_v11) andi,
    TRef.nullary (TRef.of (T := ⟨S_, .i32⟩) main_call5_c_0) (constantI S_ 32 1#32),
    TRef.unary (TRef.of (T := ⟨S_, .i32⟩) main_call5_c_0) (TRef.of (T := ⟨S8, .i32⟩) main_call5_v12) (broadcastInDim S8 ![] bcast_S_S8) ]

/-- @main's operations 401 … 424 (window `main_part1`). -/
abbrev ops_part1_2 : List (HloOp τ sig (Elt F)) :=
  [ TRef.binary (TRef.of (T := ⟨S8, .i32⟩) main_call5_v2) (TRef.of (T := ⟨S8, .i32⟩) main_call5_v12) (TRef.of (T := ⟨S8, .i32⟩) main_call5_v13) subi,
    TRef.ternary (TRef.of (T := ⟨S8, .i1⟩) main_call5_v11) (TRef.of (T := ⟨S8, .i32⟩) main_call5_v13) (TRef.of (T := ⟨S8, .i32⟩) main_call5_v2) (TRef.of (T := ⟨S8, .i32⟩) main_v73) select,
    unary main_v72 main_v74 (broadcastInDim S8x1 ![0] bcast_S8_S8x1_0 : (⟨S8, .i32⟩ : BufTy).Contents (Elt F) → (⟨S8x1, .i32⟩ : BufTy).Contents (Elt F)),
    unary main_v73 main_v75 (broadcastInDim S8x1 ![0] bcast_S8_S8x1_0 : (⟨S8, .i32⟩ : BufTy).Contents (Elt F) → (⟨S8x1, .i32⟩ : BufTy).Contents (Elt F)),
    binary main_v74 main_v75 main_v76 (fn_main_v76 (F := F)),
    nullary main_v77 (iotaInDim S8 32 0),
    nullary main_c_5 (constantI S_ 32 0#32),
    unary main_c_5 main_v78 (broadcastInDim S8 ![] bcast_S_S8 : (⟨S_, .i32⟩ : BufTy).Contents (Elt F) → (⟨S8, .i32⟩ : BufTy).Contents (Elt F)),
    binary main_v77 main_v78 main_v79 (cmpi .slt : (⟨S8, .i32⟩ : BufTy).Contents (Elt F) → (⟨S8, .i32⟩ : BufTy).Contents (Elt F) → (⟨S8, .i1⟩ : BufTy).Contents (Elt F)),
    nullary main_c_6 (constantI S_ 32 8#32),
    unary main_c_6 main_v80 (broadcastInDim S8 ![] bcast_S_S8 : (⟨S_, .i32⟩ : BufTy).Contents (Elt F) → (⟨S8, .i32⟩ : BufTy).Contents (Elt F)),
    binary main_v77 main_v80 main_v81 (addi : (⟨S8, .i32⟩ : BufTy).Contents (Elt F) → (⟨S8, .i32⟩ : BufTy).Contents (Elt F) → (⟨S8, .i32⟩ : BufTy).Contents (Elt F)),
    ternary main_v79 main_v81 main_v77 main_v82 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    nullary main_c_7 (constantI S_ 32 0#32),
    unary main_c_7 main_v83 (broadcastInDim S8 ![] bcast_S_S8 : (⟨S_, .i32⟩ : BufTy).Contents (Elt F) → (⟨S8, .i32⟩ : BufTy).Contents (Elt F)),
    binary main_v71 main_v83 main_v84 (cmpi .slt : (⟨S8, .i32⟩ : BufTy).Contents (Elt F) → (⟨S8, .i32⟩ : BufTy).Contents (Elt F) → (⟨S8, .i1⟩ : BufTy).Contents (Elt F)),
    nullary main_c_8 (constantI S_ 32 50176#32),
    unary main_c_8 main_v85 (broadcastInDim S8 ![] bcast_S_S8 : (⟨S_, .i32⟩ : BufTy).Contents (Elt F) → (⟨S8, .i32⟩ : BufTy).Contents (Elt F)),
    binary main_v71 main_v85 main_v86 (addi : (⟨S8, .i32⟩ : BufTy).Contents (Elt F) → (⟨S8, .i32⟩ : BufTy).Contents (Elt F) → (⟨S8, .i32⟩ : BufTy).Contents (Elt F)),
    ternary main_v84 main_v86 main_v71 main_v87 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_v82 main_v88 (broadcastInDim S8x1 ![0] bcast_S8_S8x1_0 : (⟨S8, .i32⟩ : BufTy).Contents (Elt F) → (⟨S8x1, .i32⟩ : BufTy).Contents (Elt F)),
    unary main_v87 main_v89 (broadcastInDim S8x1 ![0] bcast_S8_S8x1_0 : (⟨S8, .i32⟩ : BufTy).Contents (Elt F) → (⟨S8x1, .i32⟩ : BufTy).Contents (Elt F)),
    binary main_v88 main_v89 main_v90 (fn_main_v90 (F := F)),
    binary main_v60 main_v90 main_v91 ((fun x i => Host.gather gather_S8x50176_S8x2_S8_n_01_n_n_01_1_11 x i) : (⟨S8x50176, .f32⟩ : BufTy).Contents (Elt F) → (⟨S8x2, .i32⟩ : BufTy).Contents (Elt F) → (⟨S8, .f32⟩ : BufTy).Contents (Elt F)) ]

/-- Window `main_part1`'s operations. Not an abbreviation: `main_eq` below splits `ops` into the windows and no further. -/
def ops_part1 : List (HloOp τ sig (Elt F)) :=
  ops_part1_0a ++ (ops_part1_0n ++ (ops_part1_0b ++ (ops_part1_1 ++ (ops_part1_2))))

/-- @main's operations, in order (a called function's operations stand in its call's place, spelt `TRef.…`). -/
abbrev ops : List (HloOp τ sig (Elt F)) :=
  ops_part0 ++ (ops_part1)

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨nullary_bufs_sub .., unary_bufs_sub .., binary_bufs_sub .., unary_bufs_sub .., unary_bufs_sub .., reshape_bufs_sub .., binary_bufs_sub .., unary_bufs_sub .., nullary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., reshape_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  unary_bufs_sub ..
set_option maxRecDepth 8192 in
theorem ops_part0_2_fresh : (ops_part0_2 : List (HloOp τ sig (Elt F))).Forall fun op => op.fresh = ∅ :=
  rfl
set_option maxRecDepth 8192 in
theorem ops_part1_0a_sub : (ops_part1_0a : List (HloOp τ sig (Elt F))).Forall fun op => op.bufs ⊆ tcRefs τ sig :=
  ⟨binary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub ..⟩
set_option maxRecDepth 8192 in
theorem ops_part1_0b_sub : (ops_part1_0b : List (HloOp τ sig (Elt F))).Forall fun op => op.bufs ⊆ tcRefs τ sig :=
  ⟨binary_bufs_sub .., nullary_bufs_sub .., nullary_bufs_sub .., nullary_bufs_sub .., quaternary_bufs_sub .., quaternary_bufs_sub .., nullary_bufs_sub .., unary_bufs_sub .., nullary_bufs_sub .., binary_bufs_sub .., nullary_bufs_sub .., ternary_bufs_sub .., unary_bufs_sub .., binary_bufs_sub ..⟩
theorem ops_part1_0n_sub : (ops_part1_0n : List (HloOp τ sig (Elt F))).Forall fun op => op.bufs ⊆ tcRefs τ sig :=
  inReference.ops_sub code
set_option maxRecDepth 8192 in
theorem ops_part1_0a_fresh : (ops_part1_0a : List (HloOp τ sig (Elt F))).Forall fun op => op.fresh = ∅ :=
  ⟨rfl, rfl, rfl, rfl, rfl, rfl, rfl, rfl, rfl, rfl, rfl, rfl, rfl, rfl, rfl, rfl, rfl, rfl⟩
set_option maxRecDepth 8192 in
theorem ops_part1_0b_fresh : (ops_part1_0b : List (HloOp τ sig (Elt F))).Forall fun op => op.fresh = ∅ :=
  ⟨rfl, rfl, rfl, rfl, rfl, rfl, rfl, rfl, rfl, rfl, rfl, rfl, rfl, rfl⟩
theorem ops_part1_0n_fresh : (ops_part1_0n : List (HloOp τ sig (Elt F))).Forall fun op => op.fresh = ∅ :=
  inReference.ops_fresh code
set_option maxRecDepth 8192 in
theorem ops_part1_1_sub : (ops_part1_1 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨binary_bufs_sub .., ternary_bufs_sub .., unary_bufs_sub .., unary_bufs_sub .., binary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, List.mem_append, or_assoc] at h
    rcases h with h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0a_sub op h, List.forall_iff_forall_mem.mp ops_part1_0n_sub op h, List.forall_iff_forall_mem.mp ops_part1_0b_sub op h, List.forall_iff_forall_mem.mp ops_part1_1_sub op h, List.forall_iff_forall_mem.mp ops_part1_2_sub op h]
theorem ops_fresh : ∀ op ∈ (ops : List (HloOp τ sig (Elt F))), op.fresh = ∅ := fun op h => by
    simp only [ops, ops_part0, ops_part1, List.mem_append, or_assoc] at h
    rcases h with h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0a_fresh op h, List.forall_iff_forall_mem.mp ops_part1_0n_fresh op h, List.forall_iff_forall_mem.mp ops_part1_0b_fresh op h, List.forall_iff_forall_mem.mp ops_part1_1_fresh op h, List.forall_iff_forall_mem.mp ops_part1_2_fresh op h]

set_option maxRecDepth 8192 in
/-- `main_v0`'s composed term of the arguments (named: it is used 9 times). -/
def res_main_v0 (V0 : Valuation τ sig (Elt F)) : (Proc.devRef .tc main_v0 : DevRef τ sig).ty.Contents (Elt F) :=
  pad S8x96x226x226 ![0, 0, 1, 1] ![0, 0, 1, 1] ![0, 0, 0, 0] (V0 (Proc.devRef .tc main_arg0)) (sitofp .f32 (constantI S_ 32 0#32)) pads_S8x96x224x224_S8x96x226x226_000_000_110_110 h_S_

set_option maxRecDepth 8192 in
/-- `main_v58`'s composed term of the arguments (named: it is long). -/
def res_main_v58 (V0 : Valuation τ sig (Elt F)) : (Proc.devRef .tc main_v58 : DevRef τ sig).ty.Contents (Elt F) :=
  addf (addf (addf (addf (addf (addf (addf (addf (addf (addf (broadcastInDim S8x1x224x224 ![] bcast_S_S8x1x224x224 (constant S_ .f32 0x00000000#32)) (transpose S8x1x224x224 [1, 0, 2, 3] (Host.dotGeneral dot_S1x96_S8x96x224x224_S1x8x224x224_1_1_0_023_n_n none (shapeCast _ (extractStridedSlice S1x96x1x1 ![0, 0, 0, 0] (V0 (Proc.devRef .tc main_arg1)) slices_S1x96x3x3_S1x96x1x1_0_0_0_0) shapeCasts_S1x96x1x1_S1x96) (extractStridedSlice S8x96x224x224 ![0, 0, 0, 0] (res_main_v0 V0) slices_S8x96x226x226_S8x96x224x224_0_0_0_0)) transposes_S1x8x224x224_S8x1x224x224_1_0_2_3)) (transpose S8x1x224x224 [1, 0, 2, 3] (Host.dotGeneral dot_S1x96_S8x96x224x224_S1x8x224x224_1_1_0_023_n_n none (shapeCast _ (extractStridedSlice S1x96x1x1 ![0, 0, 0, 1] (V0 (Proc.devRef .tc main_arg1)) slices_S1x96x3x3_S1x96x1x1_0_0_0_1) shapeCasts_S1x96x1x1_S1x96) (extractStridedSlice S8x96x224x224 ![0, 0, 0, 1] (res_main_v0 V0) slices_S8x96x226x226_S8x96x224x224_0_0_0_1)) transposes_S1x8x224x224_S8x1x224x224_1_0_2_3)) (transpose S8x1x224x224 [1, 0, 2, 3] (Host.dotGeneral dot_S1x96_S8x96x224x224_S1x8x224x224_1_1_0_023_n_n none (shapeCast _ (extractStridedSlice S1x96x1x1 ![0, 0, 0, 2] (V0 (Proc.devRef .tc main_arg1)) slices_S1x96x3x3_S1x96x1x1_0_0_0_2) shapeCasts_S1x96x1x1_S1x96) (extractStridedSlice S8x96x224x224 ![0, 0, 0, 2] (res_main_v0 V0) slices_S8x96x226x226_S8x96x224x224_0_0_0_2)) transposes_S1x8x224x224_S8x1x224x224_1_0_2_3)) (transpose S8x1x224x224 [1, 0, 2, 3] (Host.dotGeneral dot_S1x96_S8x96x224x224_S1x8x224x224_1_1_0_023_n_n none (shapeCast _ (extractStridedSlice S1x96x1x1 ![0, 0, 1, 0] (V0 (Proc.devRef .tc main_arg1)) slices_S1x96x3x3_S1x96x1x1_0_0_1_0) shapeCasts_S1x96x1x1_S1x96) (extractStridedSlice S8x96x224x224 ![0, 0, 1, 0] (res_main_v0 V0) slices_S8x96x226x226_S8x96x224x224_0_0_1_0)) transposes_S1x8x224x224_S8x1x224x224_1_0_2_3)) (transpose S8x1x224x224 [1, 0, 2, 3] (Host.dotGeneral dot_S1x96_S8x96x224x224_S1x8x224x224_1_1_0_023_n_n none (shapeCast _ (extractStridedSlice S1x96x1x1 ![0, 0, 1, 1] (V0 (Proc.devRef .tc main_arg1)) slices_S1x96x3x3_S1x96x1x1_0_0_1_1) shapeCasts_S1x96x1x1_S1x96) (extractStridedSlice S8x96x224x224 ![0, 0, 1, 1] (res_main_v0 V0) slices_S8x96x226x226_S8x96x224x224_0_0_1_1)) transposes_S1x8x224x224_S8x1x224x224_1_0_2_3)) (transpose S8x1x224x224 [1, 0, 2, 3] (Host.dotGeneral dot_S1x96_S8x96x224x224_S1x8x224x224_1_1_0_023_n_n none (shapeCast _ (extractStridedSlice S1x96x1x1 ![0, 0, 1, 2] (V0 (Proc.devRef .tc main_arg1)) slices_S1x96x3x3_S1x96x1x1_0_0_1_2) shapeCasts_S1x96x1x1_S1x96) (extractStridedSlice S8x96x224x224 ![0, 0, 1, 2] (res_main_v0 V0) slices_S8x96x226x226_S8x96x224x224_0_0_1_2)) transposes_S1x8x224x224_S8x1x224x224_1_0_2_3)) (transpose S8x1x224x224 [1, 0, 2, 3] (Host.dotGeneral dot_S1x96_S8x96x224x224_S1x8x224x224_1_1_0_023_n_n none (shapeCast _ (extractStridedSlice S1x96x1x1 ![0, 0, 2, 0] (V0 (Proc.devRef .tc main_arg1)) slices_S1x96x3x3_S1x96x1x1_0_0_2_0) shapeCasts_S1x96x1x1_S1x96) (extractStridedSlice S8x96x224x224 ![0, 0, 2, 0] (res_main_v0 V0) slices_S8x96x226x226_S8x96x224x224_0_0_2_0)) transposes_S1x8x224x224_S8x1x224x224_1_0_2_3)) (transpose S8x1x224x224 [1, 0, 2, 3] (Host.dotGeneral dot_S1x96_S8x96x224x224_S1x8x224x224_1_1_0_023_n_n none (shapeCast _ (extractStridedSlice S1x96x1x1 ![0, 0, 2, 1] (V0 (Proc.devRef .tc main_arg1)) slices_S1x96x3x3_S1x96x1x1_0_0_2_1) shapeCasts_S1x96x1x1_S1x96) (extractStridedSlice S8x96x224x224 ![0, 0, 2, 1] (res_main_v0 V0) slices_S8x96x226x226_S8x96x224x224_0_0_2_1)) transposes_S1x8x224x224_S8x1x224x224_1_0_2_3)) (transpose S8x1x224x224 [1, 0, 2, 3] (Host.dotGeneral dot_S1x96_S8x96x224x224_S1x8x224x224_1_1_0_023_n_n none (shapeCast _ (extractStridedSlice S1x96x1x1 ![0, 0, 2, 2] (V0 (Proc.devRef .tc main_arg1)) slices_S1x96x3x3_S1x96x1x1_0_0_2_2) shapeCasts_S1x96x1x1_S1x96) (extractStridedSlice S8x96x224x224 ![0, 0, 2, 2] (res_main_v0 V0) slices_S8x96x226x226_S8x96x224x224_0_0_2_2)) transposes_S1x8x224x224_S8x1x224x224_1_0_2_3)) (broadcastInDim S8x1x224x224 ![0, 1, 2, 3] bcast_S1x1x1x1_S8x1x224x224_0_1_2_3 (shapeCast _ (V0 (Proc.devRef .tc main_arg2)) shapeCasts_S1_S1x1x1x1))

set_option maxRecDepth 8192 in
/-- `main_v59`'s composed term of the arguments (named: it is used 2 times). -/
def res_main_v59 (V0 : Valuation τ sig (Elt F)) : (Proc.devRef .tc main_v59 : DevRef τ sig).ty.Contents (Elt F) :=
  shapeCast _ (res_main_v58 V0) shapeCasts_S8x1x224x224_S8x50176

set_option maxRecDepth 8192 in
/-- `main_call1_v5`'s composed term of the arguments (named: it is used 2 times). -/
def res_main_call1_v5 (V0 : Valuation τ sig (Elt F)) : (Proc.devRef .tc main_call1_v5 : DevRef τ sig).ty.Contents (Elt F) :=
  subf (res_main_v59 V0) (broadcastInDim S8x50176 ![0, 1] bcast_S8x1_S8x50176_0_1 (broadcastInDim S8x1 ![0] bcast_S8_S8x1_0 (maximumf (broadcastInDim S8 ![] bcast_S_S8 (constant S_ .f32 0xFF800000#32)) (Host.reduce FloatOps.maximumf (res_main_v59 V0) (constant S_ .f32 0xFF800000#32) reducesTo_S8x50176_S8_d1 h_S_))))

set_option maxRecDepth 8192 in
/-- `main_v60`'s composed term of the arguments (named: it is used 3 times). -/
def res_main_v60 (V0 : Valuation τ sig (Elt F)) : (Proc.devRef .tc main_v60 : DevRef τ sig).ty.Contents (Elt F) :=
  subf (res_main_call1_v5 V0) (broadcastInDim S8x50176 ![0, 1] bcast_S8x1_S8x50176_0_1 (Host.log (broadcastInDim S8x1 ![0] bcast_S8_S8x1_0 (Host.reduceAdd (Host.exp (res_main_call1_v5 V0)) (constant S_ .f32 0x00000000#32) reducesTo_S8x50176_S8_d1 h_S_))))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_c, main_call0_v0, main_v0, main_v1, main_v2, main_v3, main_v4, main_v5, main_cst, main_v6, main_v7, main_v8, main_v9, main_v10, main_v11, main_v12, main_v13, main_v14, main_v15, main_v16, main_v17, main_v18, main_v19, main_v20, main_v21, main_v22, main_v23, main_v24, main_v25, main_v26]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
set_option maxRecDepth 8192 in
set_option maxHeartbeats 2000000 in
theorem val0_1_main_v0 (V0 : Valuation τ sig (Elt F)) : val0_1 V0 (no_index (Proc.devRef .tc main_v0)) = res_main_v0 V0 := by
  unfold val0_1
  simp only [ops_part0_0, TRef.binary, TRef.unary, TRef.toBuf, TRef.ofBuf, cast_eq]
  after_results_simp
  simp only [val0_main_arg0] <;> rfl
set_option maxRecDepth 8192 in
set_option maxHeartbeats 2000000 in
theorem val0_1_main_v25 (V0 : Valuation τ sig (Elt F)) : val0_1 V0 (no_index (Proc.devRef .tc main_v25)) = addf (addf (addf (addf (broadcastInDim S8x1x224x224 ![] bcast_S_S8x1x224x224 (constant S_ .f32 0x00000000#32)) (transpose S8x1x224x224 [1, 0, 2, 3] (Host.dotGeneral dot_S1x96_S8x96x224x224_S1x8x224x224_1_1_0_023_n_n none (shapeCast _ (extractStridedSlice S1x96x1x1 ![0, 0, 0, 0] (V0 (Proc.devRef .tc main_arg1)) slices_S1x96x3x3_S1x96x1x1_0_0_0_0) shapeCasts_S1x96x1x1_S1x96) (extractStridedSlice S8x96x224x224 ![0, 0, 0, 0] (res_main_v0 V0) slices_S8x96x226x226_S8x96x224x224_0_0_0_0)) transposes_S1x8x224x224_S8x1x224x224_1_0_2_3)) (transpose S8x1x224x224 [1, 0, 2, 3] (Host.dotGeneral dot_S1x96_S8x96x224x224_S1x8x224x224_1_1_0_023_n_n none (shapeCast _ (extractStridedSlice S1x96x1x1 ![0, 0, 0, 1] (V0 (Proc.devRef .tc main_arg1)) slices_S1x96x3x3_S1x96x1x1_0_0_0_1) shapeCasts_S1x96x1x1_S1x96) (extractStridedSlice S8x96x224x224 ![0, 0, 0, 1] (res_main_v0 V0) slices_S8x96x226x226_S8x96x224x224_0_0_0_1)) transposes_S1x8x224x224_S8x1x224x224_1_0_2_3)) (transpose S8x1x224x224 [1, 0, 2, 3] (Host.dotGeneral dot_S1x96_S8x96x224x224_S1x8x224x224_1_1_0_023_n_n none (shapeCast _ (extractStridedSlice S1x96x1x1 ![0, 0, 0, 2] (V0 (Proc.devRef .tc main_arg1)) slices_S1x96x3x3_S1x96x1x1_0_0_0_2) shapeCasts_S1x96x1x1_S1x96) (extractStridedSlice S8x96x224x224 ![0, 0, 0, 2] (res_main_v0 V0) slices_S8x96x226x226_S8x96x224x224_0_0_0_2)) transposes_S1x8x224x224_S8x1x224x224_1_0_2_3)) (transpose S8x1x224x224 [1, 0, 2, 3] (Host.dotGeneral dot_S1x96_S8x96x224x224_S1x8x224x224_1_1_0_023_n_n none (shapeCast _ (extractStridedSlice S1x96x1x1 ![0, 0, 1, 0] (V0 (Proc.devRef .tc main_arg1)) slices_S1x96x3x3_S1x96x1x1_0_0_1_0) shapeCasts_S1x96x1x1_S1x96) (extractStridedSlice S8x96x224x224 ![0, 0, 1, 0] (res_main_v0 V0) slices_S8x96x226x226_S8x96x224x224_0_0_1_0)) transposes_S1x8x224x224_S8x1x224x224_1_0_2_3) := by
  unfold val0_1
  simp only [ops_part0_0, TRef.binary, TRef.unary, TRef.toBuf, TRef.ofBuf, cast_eq]
  after_results_simp
  simp only [val0_main_arg0, val0_main_arg1] <;> rfl
set_option maxRecDepth 8192 in
set_option maxHeartbeats 2000000 in
theorem val0_1_main_v26 (V0 : Valuation τ sig (Elt F)) : val0_1 V0 (no_index (Proc.devRef .tc main_v26)) = extractStridedSlice S8x96x224x224 ![0, 0, 1, 1] (res_main_v0 V0) slices_S8x96x226x226_S8x96x224x224_0_0_1_1 := by
  unfold val0_1
  simp only [ops_part0_0, TRef.binary, TRef.unary, TRef.toBuf, TRef.ofBuf, cast_eq]
  after_results_simp
  simp only [val0_main_arg0] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
set_option maxRecDepth 8192 in
set_option maxHeartbeats 2000000 in
theorem val0_2_main_v55 (V0 : Valuation τ sig (Elt F)) : val0_2 V0 (no_index (Proc.devRef .tc main_v55)) = addf (addf (addf (addf (addf (addf (addf (addf (addf (broadcastInDim S8x1x224x224 ![] bcast_S_S8x1x224x224 (constant S_ .f32 0x00000000#32)) (transpose S8x1x224x224 [1, 0, 2, 3] (Host.dotGeneral dot_S1x96_S8x96x224x224_S1x8x224x224_1_1_0_023_n_n none (shapeCast _ (extractStridedSlice S1x96x1x1 ![0, 0, 0, 0] (V0 (Proc.devRef .tc main_arg1)) slices_S1x96x3x3_S1x96x1x1_0_0_0_0) shapeCasts_S1x96x1x1_S1x96) (extractStridedSlice S8x96x224x224 ![0, 0, 0, 0] (res_main_v0 V0) slices_S8x96x226x226_S8x96x224x224_0_0_0_0)) transposes_S1x8x224x224_S8x1x224x224_1_0_2_3)) (transpose S8x1x224x224 [1, 0, 2, 3] (Host.dotGeneral dot_S1x96_S8x96x224x224_S1x8x224x224_1_1_0_023_n_n none (shapeCast _ (extractStridedSlice S1x96x1x1 ![0, 0, 0, 1] (V0 (Proc.devRef .tc main_arg1)) slices_S1x96x3x3_S1x96x1x1_0_0_0_1) shapeCasts_S1x96x1x1_S1x96) (extractStridedSlice S8x96x224x224 ![0, 0, 0, 1] (res_main_v0 V0) slices_S8x96x226x226_S8x96x224x224_0_0_0_1)) transposes_S1x8x224x224_S8x1x224x224_1_0_2_3)) (transpose S8x1x224x224 [1, 0, 2, 3] (Host.dotGeneral dot_S1x96_S8x96x224x224_S1x8x224x224_1_1_0_023_n_n none (shapeCast _ (extractStridedSlice S1x96x1x1 ![0, 0, 0, 2] (V0 (Proc.devRef .tc main_arg1)) slices_S1x96x3x3_S1x96x1x1_0_0_0_2) shapeCasts_S1x96x1x1_S1x96) (extractStridedSlice S8x96x224x224 ![0, 0, 0, 2] (res_main_v0 V0) slices_S8x96x226x226_S8x96x224x224_0_0_0_2)) transposes_S1x8x224x224_S8x1x224x224_1_0_2_3)) (transpose S8x1x224x224 [1, 0, 2, 3] (Host.dotGeneral dot_S1x96_S8x96x224x224_S1x8x224x224_1_1_0_023_n_n none (shapeCast _ (extractStridedSlice S1x96x1x1 ![0, 0, 1, 0] (V0 (Proc.devRef .tc main_arg1)) slices_S1x96x3x3_S1x96x1x1_0_0_1_0) shapeCasts_S1x96x1x1_S1x96) (extractStridedSlice S8x96x224x224 ![0, 0, 1, 0] (res_main_v0 V0) slices_S8x96x226x226_S8x96x224x224_0_0_1_0)) transposes_S1x8x224x224_S8x1x224x224_1_0_2_3)) (transpose S8x1x224x224 [1, 0, 2, 3] (Host.dotGeneral dot_S1x96_S8x96x224x224_S1x8x224x224_1_1_0_023_n_n none (shapeCast _ (extractStridedSlice S1x96x1x1 ![0, 0, 1, 1] (V0 (Proc.devRef .tc main_arg1)) slices_S1x96x3x3_S1x96x1x1_0_0_1_1) shapeCasts_S1x96x1x1_S1x96) (extractStridedSlice S8x96x224x224 ![0, 0, 1, 1] (res_main_v0 V0) slices_S8x96x226x226_S8x96x224x224_0_0_1_1)) transposes_S1x8x224x224_S8x1x224x224_1_0_2_3)) (transpose S8x1x224x224 [1, 0, 2, 3] (Host.dotGeneral dot_S1x96_S8x96x224x224_S1x8x224x224_1_1_0_023_n_n none (shapeCast _ (extractStridedSlice S1x96x1x1 ![0, 0, 1, 2] (V0 (Proc.devRef .tc main_arg1)) slices_S1x96x3x3_S1x96x1x1_0_0_1_2) shapeCasts_S1x96x1x1_S1x96) (extractStridedSlice S8x96x224x224 ![0, 0, 1, 2] (res_main_v0 V0) slices_S8x96x226x226_S8x96x224x224_0_0_1_2)) transposes_S1x8x224x224_S8x1x224x224_1_0_2_3)) (transpose S8x1x224x224 [1, 0, 2, 3] (Host.dotGeneral dot_S1x96_S8x96x224x224_S1x8x224x224_1_1_0_023_n_n none (shapeCast _ (extractStridedSlice S1x96x1x1 ![0, 0, 2, 0] (V0 (Proc.devRef .tc main_arg1)) slices_S1x96x3x3_S1x96x1x1_0_0_2_0) shapeCasts_S1x96x1x1_S1x96) (extractStridedSlice S8x96x224x224 ![0, 0, 2, 0] (res_main_v0 V0) slices_S8x96x226x226_S8x96x224x224_0_0_2_0)) transposes_S1x8x224x224_S8x1x224x224_1_0_2_3)) (transpose S8x1x224x224 [1, 0, 2, 3] (Host.dotGeneral dot_S1x96_S8x96x224x224_S1x8x224x224_1_1_0_023_n_n none (shapeCast _ (extractStridedSlice S1x96x1x1 ![0, 0, 2, 1] (V0 (Proc.devRef .tc main_arg1)) slices_S1x96x3x3_S1x96x1x1_0_0_2_1) shapeCasts_S1x96x1x1_S1x96) (extractStridedSlice S8x96x224x224 ![0, 0, 2, 1] (res_main_v0 V0) slices_S8x96x226x226_S8x96x224x224_0_0_2_1)) transposes_S1x8x224x224_S8x1x224x224_1_0_2_3)) (transpose S8x1x224x224 [1, 0, 2, 3] (Host.dotGeneral dot_S1x96_S8x96x224x224_S1x8x224x224_1_1_0_023_n_n none (shapeCast _ (extractStridedSlice S1x96x1x1 ![0, 0, 2, 2] (V0 (Proc.devRef .tc main_arg1)) slices_S1x96x3x3_S1x96x1x1_0_0_2_2) shapeCasts_S1x96x1x1_S1x96) (extractStridedSlice S8x96x224x224 ![0, 0, 2, 2] (res_main_v0 V0) slices_S8x96x226x226_S8x96x224x224_0_0_2_2)) transposes_S1x8x224x224_S8x1x224x224_1_0_2_3) := by
  unfold val0_2
  simp only [ops_part0_1]
  after_results_simp
  simp only [val0_1_main_v0, val0_1_main_arg1, val0_1_main_v26, val0_1_main_v25] <;> rfl
set_option maxRecDepth 8192 in
set_option maxHeartbeats 2000000 in
theorem val0_2_main_v56 (V0 : Valuation τ sig (Elt F)) : val0_2 V0 (no_index (Proc.devRef .tc main_v56)) = shapeCast _ (V0 (Proc.devRef .tc main_arg2)) shapeCasts_S1_S1x1x1x1 := by
  unfold val0_2
  simp only [ops_part0_1]
  after_results_simp
  simp only [val0_1_main_arg2] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v57]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_v55 (V0 : Valuation τ sig (Elt F)) : val1 V0 (no_index (Proc.devRef .tc main_v55)) = addf (addf (addf (addf (addf (addf (addf (addf (addf (broadcastInDim S8x1x224x224 ![] bcast_S_S8x1x224x224 (constant S_ .f32 0x00000000#32)) (transpose S8x1x224x224 [1, 0, 2, 3] (Host.dotGeneral dot_S1x96_S8x96x224x224_S1x8x224x224_1_1_0_023_n_n none (shapeCast _ (extractStridedSlice S1x96x1x1 ![0, 0, 0, 0] (V0 (Proc.devRef .tc main_arg1)) slices_S1x96x3x3_S1x96x1x1_0_0_0_0) shapeCasts_S1x96x1x1_S1x96) (extractStridedSlice S8x96x224x224 ![0, 0, 0, 0] (res_main_v0 V0) slices_S8x96x226x226_S8x96x224x224_0_0_0_0)) transposes_S1x8x224x224_S8x1x224x224_1_0_2_3)) (transpose S8x1x224x224 [1, 0, 2, 3] (Host.dotGeneral dot_S1x96_S8x96x224x224_S1x8x224x224_1_1_0_023_n_n none (shapeCast _ (extractStridedSlice S1x96x1x1 ![0, 0, 0, 1] (V0 (Proc.devRef .tc main_arg1)) slices_S1x96x3x3_S1x96x1x1_0_0_0_1) shapeCasts_S1x96x1x1_S1x96) (extractStridedSlice S8x96x224x224 ![0, 0, 0, 1] (res_main_v0 V0) slices_S8x96x226x226_S8x96x224x224_0_0_0_1)) transposes_S1x8x224x224_S8x1x224x224_1_0_2_3)) (transpose S8x1x224x224 [1, 0, 2, 3] (Host.dotGeneral dot_S1x96_S8x96x224x224_S1x8x224x224_1_1_0_023_n_n none (shapeCast _ (extractStridedSlice S1x96x1x1 ![0, 0, 0, 2] (V0 (Proc.devRef .tc main_arg1)) slices_S1x96x3x3_S1x96x1x1_0_0_0_2) shapeCasts_S1x96x1x1_S1x96) (extractStridedSlice S8x96x224x224 ![0, 0, 0, 2] (res_main_v0 V0) slices_S8x96x226x226_S8x96x224x224_0_0_0_2)) transposes_S1x8x224x224_S8x1x224x224_1_0_2_3)) (transpose S8x1x224x224 [1, 0, 2, 3] (Host.dotGeneral dot_S1x96_S8x96x224x224_S1x8x224x224_1_1_0_023_n_n none (shapeCast _ (extractStridedSlice S1x96x1x1 ![0, 0, 1, 0] (V0 (Proc.devRef .tc main_arg1)) slices_S1x96x3x3_S1x96x1x1_0_0_1_0) shapeCasts_S1x96x1x1_S1x96) (extractStridedSlice S8x96x224x224 ![0, 0, 1, 0] (res_main_v0 V0) slices_S8x96x226x226_S8x96x224x224_0_0_1_0)) transposes_S1x8x224x224_S8x1x224x224_1_0_2_3)) (transpose S8x1x224x224 [1, 0, 2, 3] (Host.dotGeneral dot_S1x96_S8x96x224x224_S1x8x224x224_1_1_0_023_n_n none (shapeCast _ (extractStridedSlice S1x96x1x1 ![0, 0, 1, 1] (V0 (Proc.devRef .tc main_arg1)) slices_S1x96x3x3_S1x96x1x1_0_0_1_1) shapeCasts_S1x96x1x1_S1x96) (extractStridedSlice S8x96x224x224 ![0, 0, 1, 1] (res_main_v0 V0) slices_S8x96x226x226_S8x96x224x224_0_0_1_1)) transposes_S1x8x224x224_S8x1x224x224_1_0_2_3)) (transpose S8x1x224x224 [1, 0, 2, 3] (Host.dotGeneral dot_S1x96_S8x96x224x224_S1x8x224x224_1_1_0_023_n_n none (shapeCast _ (extractStridedSlice S1x96x1x1 ![0, 0, 1, 2] (V0 (Proc.devRef .tc main_arg1)) slices_S1x96x3x3_S1x96x1x1_0_0_1_2) shapeCasts_S1x96x1x1_S1x96) (extractStridedSlice S8x96x224x224 ![0, 0, 1, 2] (res_main_v0 V0) slices_S8x96x226x226_S8x96x224x224_0_0_1_2)) transposes_S1x8x224x224_S8x1x224x224_1_0_2_3)) (transpose S8x1x224x224 [1, 0, 2, 3] (Host.dotGeneral dot_S1x96_S8x96x224x224_S1x8x224x224_1_1_0_023_n_n none (shapeCast _ (extractStridedSlice S1x96x1x1 ![0, 0, 2, 0] (V0 (Proc.devRef .tc main_arg1)) slices_S1x96x3x3_S1x96x1x1_0_0_2_0) shapeCasts_S1x96x1x1_S1x96) (extractStridedSlice S8x96x224x224 ![0, 0, 2, 0] (res_main_v0 V0) slices_S8x96x226x226_S8x96x224x224_0_0_2_0)) transposes_S1x8x224x224_S8x1x224x224_1_0_2_3)) (transpose S8x1x224x224 [1, 0, 2, 3] (Host.dotGeneral dot_S1x96_S8x96x224x224_S1x8x224x224_1_1_0_023_n_n none (shapeCast _ (extractStridedSlice S1x96x1x1 ![0, 0, 2, 1] (V0 (Proc.devRef .tc main_arg1)) slices_S1x96x3x3_S1x96x1x1_0_0_2_1) shapeCasts_S1x96x1x1_S1x96) (extractStridedSlice S8x96x224x224 ![0, 0, 2, 1] (res_main_v0 V0) slices_S8x96x226x226_S8x96x224x224_0_0_2_1)) transposes_S1x8x224x224_S8x1x224x224_1_0_2_3)) (transpose S8x1x224x224 [1, 0, 2, 3] (Host.dotGeneral dot_S1x96_S8x96x224x224_S1x8x224x224_1_1_0_023_n_n none (shapeCast _ (extractStridedSlice S1x96x1x1 ![0, 0, 2, 2] (V0 (Proc.devRef .tc main_arg1)) slices_S1x96x3x3_S1x96x1x1_0_0_2_2) shapeCasts_S1x96x1x1_S1x96) (extractStridedSlice S8x96x224x224 ![0, 0, 2, 2] (res_main_v0 V0) slices_S8x96x226x226_S8x96x224x224_0_0_2_2)) transposes_S1x8x224x224_S8x1x224x224_1_0_2_3) :=
  (val1_keep V0 main_v55 (by decide)).trans (val0_2_main_v55 V0)
set_option maxRecDepth 8192 in
theorem val1_main_v57 (V0 : Valuation τ sig (Elt F)) : val1 V0 (no_index (Proc.devRef .tc main_v57)) = broadcastInDim S8x1x224x224 ![0, 1, 2, 3] bcast_S1x1x1x1_S8x1x224x224_0_1_2_3 (shapeCast _ (V0 (Proc.devRef .tc main_arg2)) shapeCasts_S1_S1x1x1x1) := by
  unfold val1
  simp only [ops_part0_2]
  after_results_simp
  simp only [val0_2_main_v56] <;> rfl

/-- The device's buffer contents when the noise begins. -/
def val1_0a (V0 : Valuation τ sig (Elt F)) : Valuation τ sig (Elt F) := after ops_part1_0a (val1 V0)
/-- The buffers that window `ops_part1_0a`'s operations write. -/
abbrev ops_part1_0a_W : List (Ref sig .tc) := [main_v58, main_v59, main_call1_cst, main_call1_v0, main_call1_cst_0, main_call1_v1, main_call1_v2, main_call1_v3, main_call1_v4, main_call1_v5, main_call1_v6, main_call1_cst_1, main_call1_v7, main_call1_v8, main_call1_v9, main_call1_v10, main_v60, main_v61]
set_option maxRecDepth 8192 in
theorem ops_part1_0a_writes : (ops_part1_0a : List (HloOp τ sig (Elt F))).Forall fun op => op.writes ⊆ (ops_part1_0a_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0a` does not write keeps its contents through it. -/
theorem val1_0a_keep (V0 : Valuation τ sig (Elt F)) (r : Ref sig .tc) (h : r ∉ ops_part1_0a_W) :
    val1_0a V0 (Proc.devRef .tc r) = val1 V0 (Proc.devRef .tc r) :=
  after_of_writes_sub ops_part1_0a _ ops_part1_0a_writes h
theorem val1_0a_main_arg0 (V0 : Valuation τ sig (Elt F)) : val1_0a V0 (no_index (Proc.devRef .tc main_arg0)) = V0 (Proc.devRef .tc main_arg0) :=
  (val1_0a_keep V0 main_arg0 (by decide)).trans (val1_main_arg0 V0)
theorem val1_0a_main_arg1 (V0 : Valuation τ sig (Elt F)) : val1_0a V0 (no_index (Proc.devRef .tc main_arg1)) = V0 (Proc.devRef .tc main_arg1) :=
  (val1_0a_keep V0 main_arg1 (by decide)).trans (val1_main_arg1 V0)
theorem val1_0a_main_arg2 (V0 : Valuation τ sig (Elt F)) : val1_0a V0 (no_index (Proc.devRef .tc main_arg2)) = V0 (Proc.devRef .tc main_arg2) :=
  (val1_0a_keep V0 main_arg2 (by decide)).trans (val1_main_arg2 V0)
set_option maxRecDepth 8192 in
set_option maxHeartbeats 2000000 in
theorem val1_0a_main_v60 (V0 : Valuation τ sig (Elt F)) : val1_0a V0 (no_index (Proc.devRef .tc main_v60)) = res_main_v60 V0 := by
  unfold val1_0a
  simp only [ops_part1_0a, TRef.quaternary, TRef.binary, TRef.nullary, TRef.ternary, TRef.unary, TRef.toBuf, TRef.ofBuf, cast_eq]
  after_results_simp
  simp only [val1_main_v57, val1_main_v55] <;> rfl
set_option maxRecDepth 8192 in
set_option maxHeartbeats 2000000 in
theorem val1_0a_main_v61 (V0 : Valuation τ sig (Elt F)) : val1_0a V0 (no_index (Proc.devRef .tc main_v61)) = Host.exp (res_main_v60 V0) := by
  unfold val1_0a
  simp only [ops_part1_0a, TRef.quaternary, TRef.binary, TRef.nullary, TRef.ternary, TRef.unary, TRef.toBuf, TRef.ofBuf, cast_eq]
  after_results_simp
  simp only [val1_main_v57, val1_main_v55] <;> rfl

/-- The device's buffer contents after the noise. -/
def val1_0n (V0 : Valuation τ sig (Elt F)) : Valuation τ sig (Elt F) := after ops_part1_0n (val1_0a V0)
/-- A buffer before the noise's own keeps its contents through it. -/
theorem val1_0n_keep (V0 : Valuation τ sig (Elt F)) (r : Ref sig .tc) (h : r.idx.val < 82) :
    val1_0n V0 (Proc.devRef .tc r) = val1_0a V0 (Proc.devRef .tc r) :=
  inReference.ops_keep code _ r (refR_ne r h)
theorem val1_0n_main_arg0 (V0 : Valuation τ sig (Elt F)) : val1_0n V0 (no_index (Proc.devRef .tc main_arg0)) = V0 (Proc.devRef .tc main_arg0) :=
  (val1_0n_keep V0 main_arg0 (by decide)).trans (val1_0a_main_arg0 V0)
theorem val1_0n_main_arg1 (V0 : Valuation τ sig (Elt F)) : val1_0n V0 (no_index (Proc.devRef .tc main_arg1)) = V0 (Proc.devRef .tc main_arg1) :=
  (val1_0n_keep V0 main_arg1 (by decide)).trans (val1_0a_main_arg1 V0)
theorem val1_0n_main_arg2 (V0 : Valuation τ sig (Elt F)) : val1_0n V0 (no_index (Proc.devRef .tc main_arg2)) = V0 (Proc.devRef .tc main_arg2) :=
  (val1_0n_keep V0 main_arg2 (by decide)).trans (val1_0a_main_arg2 V0)
theorem val1_0n_main_v60 (V0 : Valuation τ sig (Elt F)) : val1_0n V0 (no_index (Proc.devRef .tc main_v60)) = res_main_v60 V0 :=
  (val1_0n_keep V0 main_v60 (by decide)).trans (val1_0a_main_v60 V0)
theorem val1_0n_main_v61 (V0 : Valuation τ sig (Elt F)) : val1_0n V0 (no_index (Proc.devRef .tc main_v61)) = Host.exp (res_main_v60 V0) :=
  (val1_0n_keep V0 main_v61 (by decide)).trans (val1_0a_main_v61 V0)

/-- The noise: what its line leaves in `main_v69`. -/
def noise (V0 : Valuation τ sig (Elt F)) : (Proc.devRef .tc main_v69 : DevRef τ sig).ty.Contents (Elt F) :=
  val1_0n V0 (Proc.devRef .tc main_v69)
theorem val1_0n_main_v69 (V0 : Valuation τ sig (Elt F)) : val1_0n V0 (no_index (Proc.devRef .tc main_v69)) = noise V0 := rfl

set_option maxRecDepth 8192 in
/-- The position of the largest entry of each row of noise plus log-probabilities (the first of them where the
    largest value is met more than once): what the argmax function returns in `main_v71`. -/
def res_main_v71 (V0 : Valuation τ sig (Elt F)) : (Proc.devRef .tc main_v71 : DevRef τ sig).ty.Contents (Elt F) :=
  fun j => (Host.argReduce reducer_argmax_f32_i32 (addf (noise V0) (res_main_v60 V0)) (iotaInDim S8x50176 32 1)
    (constant S_ .f32 0xFF800000#32) (constantI S_ 32 0#32) reducesTo_S8x50176_S8_d1 h_S_ j).2

set_option maxRecDepth 8192 in
/-- `main_call4_v0`'s composed term of the arguments (named: it is used 2 times). -/
def res_main_call4_v0 (V0 : Valuation τ sig (Elt F)) : (Proc.devRef .tc main_call4_v0 : DevRef τ sig).ty.Contents (Elt F) :=
  id (constantI S_ 32 224#32)

set_option maxRecDepth 8192 in
/-- `main_call4_v2`'s composed term of the arguments (named: it is used 3 times). -/
def res_main_call4_v2 (V0 : Valuation τ sig (Elt F)) : (Proc.devRef .tc main_call4_v2 : DevRef τ sig).ty.Contents (Elt F) :=
  select (cmpi .eq (res_main_call4_v0 V0) (constantI S_ 32 0#32)) (constantI S_ 32 1#32) (res_main_call4_v0 V0)

set_option maxRecDepth 8192 in
/-- `main_call4_v4`'s composed term of the arguments (named: it is used 4 times). -/
def res_main_call4_v4 (V0 : Valuation τ sig (Elt F)) : (Proc.devRef .tc main_call4_v4 : DevRef τ sig).ty.Contents (Elt F) :=
  Host.remsi (res_main_v71 V0) (broadcastInDim S8 ![] bcast_S_S8 (res_main_call4_v2 V0))

set_option maxRecDepth 8192 in
/-- `main_call5_v0`'s composed term of the arguments (named: it is used 3 times). -/
def res_main_call5_v0 (V0 : Valuation τ sig (Elt F)) : (Proc.devRef .tc main_call5_v0 : DevRef τ sig).ty.Contents (Elt F) :=
  id (constantI S_ 32 224#32)

set_option maxRecDepth 8192 in
/-- `main_call5_v2`'s composed term of the arguments (named: it is used 2 times). -/
def res_main_call5_v2 (V0 : Valuation τ sig (Elt F)) : (Proc.devRef .tc main_call5_v2 : DevRef τ sig).ty.Contents (Elt F) :=
  Host.divsi (res_main_v71 V0) (broadcastInDim S8 ![] bcast_S_S8 (res_main_call5_v0 V0))

set_option maxRecDepth 8192 in
/-- `main_v77`'s composed term of the arguments (named: it is used 3 times). -/
def res_main_v77 (V0 : Valuation τ sig (Elt F)) : (Proc.devRef .tc main_v77 : DevRef τ sig).ty.Contents (Elt F) :=
  iotaInDim S8 32 0

/-- The device's buffer contents 14 operations after the noise. -/
def val1_1 (V0 : Valuation τ sig (Elt F)) : Valuation τ sig (Elt F) := after ops_part1_0b (val1_0n V0)
/-- The buffers that window `ops_part1_0b`'s operations write. -/
abbrev ops_part1_0b_W : List (Ref sig .tc) := [main_v70, main_call3_v0, main_call3_cst, main_call3_c, main_call3_v1_0, main_v71, main_c_3, main_call4_v0, main_call4_c, main_call4_v1, main_call4_c_0, main_call4_v2, main_call4_v3, main_call4_v4]
set_option maxRecDepth 8192 in
theorem ops_part1_0b_writes : (ops_part1_0b : List (HloOp τ sig (Elt F))).Forall fun op => op.writes ⊆ (ops_part1_0b_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0b` does not write keeps its contents through it. -/
theorem val1_1_keep (V0 : Valuation τ sig (Elt F)) (r : Ref sig .tc) (h : r ∉ ops_part1_0b_W) :
    val1_1 V0 (Proc.devRef .tc r) = val1_0n V0 (Proc.devRef .tc r) :=
  after_of_writes_sub ops_part1_0b _ ops_part1_0b_writes h
theorem val1_1_main_arg0 (V0 : Valuation τ sig (Elt F)) : val1_1 V0 (no_index (Proc.devRef .tc main_arg0)) = V0 (Proc.devRef .tc main_arg0) :=
  (val1_1_keep V0 main_arg0 (by decide)).trans (val1_0n_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_0n_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_0n_main_arg2 V0)
theorem val1_1_main_v60 (V0 : Valuation τ sig (Elt F)) : val1_1 V0 (no_index (Proc.devRef .tc main_v60)) = res_main_v60 V0 :=
  (val1_1_keep V0 main_v60 (by decide)).trans (val1_0n_main_v60 V0)
theorem val1_1_main_v61 (V0 : Valuation τ sig (Elt F)) : val1_1 V0 (no_index (Proc.devRef .tc main_v61)) = Host.exp (res_main_v60 V0) :=
  (val1_1_keep V0 main_v61 (by decide)).trans (val1_0n_main_v61 V0)
set_option maxRecDepth 8192 in
set_option maxHeartbeats 2000000 in
theorem val1_1_main_v71 (V0 : Valuation τ sig (Elt F)) : val1_1 V0 (no_index (Proc.devRef .tc main_v71)) = res_main_v71 V0 := by
  unfold val1_1
  simp only [ops_part1_0b, TRef.quaternary, TRef.binary, TRef.nullary, TRef.ternary, TRef.unary, TRef.toBuf, TRef.ofBuf, cast_eq]
  after_results_simp
  simp only [val1_0n_main_v60, val1_0n_main_v69] <;> rfl
set_option maxRecDepth 8192 in
set_option maxHeartbeats 2000000 in
theorem val1_1_main_call4_v2 (V0 : Valuation τ sig (Elt F)) : val1_1 V0 (no_index (Proc.devRef .tc main_call4_v2)) = res_main_call4_v2 V0 := by
  unfold val1_1
  simp only [ops_part1_0b, TRef.quaternary, TRef.binary, TRef.nullary, TRef.ternary, TRef.unary, TRef.toBuf, TRef.ofBuf, cast_eq]
  after_results_simp
  all_goals rfl
set_option maxRecDepth 8192 in
set_option maxHeartbeats 2000000 in
theorem val1_1_main_call4_v4 (V0 : Valuation τ sig (Elt F)) : val1_1 V0 (no_index (Proc.devRef .tc main_call4_v4)) = res_main_call4_v4 V0 := by
  unfold val1_1
  simp only [ops_part1_0b, TRef.quaternary, TRef.binary, TRef.nullary, TRef.ternary, TRef.unary, TRef.toBuf, TRef.ofBuf, cast_eq]
  after_results_simp
  simp only [val1_0n_main_v60, val1_0n_main_v69] <;> rfl

/-- The device's buffer contents after @main's first 400 operations. -/
def val1_2 (V0 : Valuation τ sig (Elt F)) : Valuation τ sig (Elt F) := after ops_part1_1 (val1_1 V0)
/-- The buffers that window `ops_part1_1`'s operations write. -/
abbrev ops_part1_1_W : List (Ref sig .tc) := [main_call4_c_1, main_call4_v5, main_call4_v6, main_call4_c_2, main_call4_v7, main_call4_v8, main_call4_c_3, main_call4_v9, main_call4_v10, main_call4_v11, main_call4_v12, main_call4_v13, main_call4_v14, main_v72, main_c_4, main_call5_v0, main_call5_v1, main_call5_v2, main_call5_v3, main_call5_v4, main_call5_v5, main_call5_v6, main_call5_v7, main_call5_v8, main_call5_c, main_call5_v9, main_call5_v10, main_call5_v11, main_call5_c_0, main_call5_v12]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_v60 (V0 : Valuation τ sig (Elt F)) : val1_2 V0 (no_index (Proc.devRef .tc main_v60)) = res_main_v60 V0 :=
  (val1_2_keep V0 main_v60 (by decide)).trans (val1_1_main_v60 V0)
theorem val1_2_main_v61 (V0 : Valuation τ sig (Elt F)) : val1_2 V0 (no_index (Proc.devRef .tc main_v61)) = Host.exp (res_main_v60 V0) :=
  (val1_2_keep V0 main_v61 (by decide)).trans (val1_1_main_v61 V0)
theorem val1_2_main_v71 (V0 : Valuation τ sig (Elt F)) : val1_2 V0 (no_index (Proc.devRef .tc main_v71)) = res_main_v71 V0 :=
  (val1_2_keep V0 main_v71 (by decide)).trans (val1_1_main_v71 V0)
set_option maxRecDepth 8192 in
set_option maxHeartbeats 2000000 in
theorem val1_2_main_v72 (V0 : Valuation τ sig (Elt F)) : val1_2 V0 (no_index (Proc.devRef .tc main_v72)) = select (andi (cmpi .ne (cmpi .slt (res_main_call4_v4 V0) (broadcastInDim S8 ![] bcast_S_S8 (constantI S_ 32 0#32))) (broadcastInDim S8 ![] bcast_S_S8 (cmpi .slt (res_main_call4_v2 V0) (constantI S_ 32 0#32)))) (cmpi .ne (res_main_call4_v4 V0) (broadcastInDim S8 ![] bcast_S_S8 (constantI S_ 32 0#32)))) (addi (res_main_call4_v4 V0) (broadcastInDim S8 ![] bcast_S_S8 (res_main_call4_v2 V0))) (res_main_call4_v4 V0) := by
  unfold val1_2
  simp only [ops_part1_1, TRef.binary, TRef.nullary, TRef.ternary, TRef.unary, TRef.toBuf, TRef.ofBuf, cast_eq]
  after_results_simp
  simp only [val1_1_main_call4_v4, val1_1_main_call4_v2] <;> rfl
set_option maxRecDepth 8192 in
set_option maxHeartbeats 2000000 in
theorem val1_2_main_call5_v2 (V0 : Valuation τ sig (Elt F)) : val1_2 V0 (no_index (Proc.devRef .tc main_call5_v2)) = res_main_call5_v2 V0 := by
  unfold val1_2
  simp only [ops_part1_1, TRef.binary, TRef.nullary, TRef.ternary, TRef.unary, TRef.toBuf, TRef.ofBuf, cast_eq]
  after_results_simp
  simp only [val1_1_main_v71] <;> rfl
set_option maxRecDepth 8192 in
set_option maxHeartbeats 2000000 in
theorem val1_2_main_call5_v11 (V0 : Valuation τ sig (Elt F)) : val1_2 V0 (no_index (Proc.devRef .tc main_call5_v11)) = andi (cmpi .ne (signi (res_main_v71 V0)) (broadcastInDim S8 ![] bcast_S_S8 (signi (res_main_call5_v0 V0)))) (cmpi .ne (Host.remsi (res_main_v71 V0) (broadcastInDim S8 ![] bcast_S_S8 (res_main_call5_v0 V0))) (broadcastInDim S8 ![] bcast_S_S8 (constantI S_ 32 0#32))) := by
  unfold val1_2
  simp only [ops_part1_1, TRef.binary, TRef.nullary, TRef.ternary, TRef.unary, TRef.toBuf, TRef.ofBuf, cast_eq]
  after_results_simp
  simp only [val1_1_main_v71] <;> rfl
set_option maxRecDepth 8192 in
set_option maxHeartbeats 2000000 in
theorem val1_2_main_call5_v12 (V0 : Valuation τ sig (Elt F)) : val1_2 V0 (no_index (Proc.devRef .tc main_call5_v12)) = broadcastInDim S8 ![] bcast_S_S8 (constantI S_ 32 1#32) := by
  unfold val1_2
  simp only [ops_part1_1, TRef.binary, TRef.nullary, TRef.ternary, TRef.unary, TRef.toBuf, TRef.ofBuf, cast_eq]
  after_results_simp
  all_goals rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_call5_v13, main_v73, main_v74, main_v75, main_v76, main_v77, main_c_5, main_v78, main_v79, main_c_6, main_v80, main_v81, main_v82, main_c_7, main_v83, main_v84, main_c_8, main_v85, main_v86, main_v87, main_v88, main_v89, main_v90, main_v91]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_v61 (V0 : Valuation τ sig (Elt F)) : val2 V0 (no_index (Proc.devRef .tc main_v61)) = Host.exp (res_main_v60 V0) :=
  (val2_keep V0 main_v61 (by decide)).trans (val1_2_main_v61 V0)
set_option maxRecDepth 8192 in
set_option maxHeartbeats 2000000 in
theorem val2_main_v76 (V0 : Valuation τ sig (Elt F)) : val2 V0 (no_index (Proc.devRef .tc main_v76)) = concatenate S8x2 1 [⟨S8x1, (broadcastInDim S8x1 ![0] bcast_S8_S8x1_0 (select (andi (cmpi .ne (cmpi .slt (res_main_call4_v4 V0) (broadcastInDim S8 ![] bcast_S_S8 (constantI S_ 32 0#32))) (broadcastInDim S8 ![] bcast_S_S8 (cmpi .slt (res_main_call4_v2 V0) (constantI S_ 32 0#32)))) (cmpi .ne (res_main_call4_v4 V0) (broadcastInDim S8 ![] bcast_S_S8 (constantI S_ 32 0#32)))) (addi (res_main_call4_v4 V0) (broadcastInDim S8 ![] bcast_S_S8 (res_main_call4_v2 V0))) (res_main_call4_v4 V0)))⟩, ⟨S8x1, (broadcastInDim S8x1 ![0] bcast_S8_S8x1_0 (select (andi (cmpi .ne (signi (res_main_v71 V0)) (broadcastInDim S8 ![] bcast_S_S8 (signi (res_main_call5_v0 V0)))) (cmpi .ne (Host.remsi (res_main_v71 V0) (broadcastInDim S8 ![] bcast_S_S8 (res_main_call5_v0 V0))) (broadcastInDim S8 ![] bcast_S_S8 (constantI S_ 32 0#32)))) (subi (res_main_call5_v2 V0) (broadcastInDim S8 ![] bcast_S_S8 (constantI S_ 32 1#32))) (res_main_call5_v2 V0)))⟩] concatenates_S8x1_S8x1_S8x2_d1 := by
  unfold val2
  simp only [ops_part1_2, TRef.binary, TRef.ternary, TRef.toBuf, TRef.ofBuf, cast_eq]
  after_results_simp
  simp only [val1_2_main_call5_v2, val1_2_main_call5_v12, val1_2_main_call5_v11, val1_2_main_v72] <;> rfl
set_option maxRecDepth 8192 in
set_option maxHeartbeats 2000000 in
theorem val2_main_v91 (V0 : Valuation τ sig (Elt F)) : val2 V0 (no_index (Proc.devRef .tc main_v91)) = Host.gather gather_S8x50176_S8x2_S8_n_01_n_n_01_1_11 (res_main_v60 V0) (concatenate S8x2 1 [⟨S8x1, (broadcastInDim S8x1 ![0] bcast_S8_S8x1_0 (select (cmpi .slt (res_main_v77 V0) (broadcastInDim S8 ![] bcast_S_S8 (constantI S_ 32 0#32))) (addi (res_main_v77 V0) (broadcastInDim S8 ![] bcast_S_S8 (constantI S_ 32 8#32))) (res_main_v77 V0)))⟩, ⟨S8x1, (broadcastInDim S8x1 ![0] bcast_S8_S8x1_0 (select (cmpi .slt (res_main_v71 V0) (broadcastInDim S8 ![] bcast_S_S8 (constantI S_ 32 0#32))) (addi (res_main_v71 V0) (broadcastInDim S8 ![] bcast_S_S8 (constantI S_ 32 50176#32))) (res_main_v71 V0)))⟩] concatenates_S8x1_S8x1_S8x2_d1) := by
  unfold val2
  simp only [ops_part1_2, TRef.binary, TRef.ternary, TRef.toBuf, TRef.ofBuf, cast_eq]
  after_results_simp
  simp only [val1_2_main_v71, val1_2_main_v60] <;> rfl

theorem after_ops (V0 : Valuation τ sig (Elt F)) : after ops V0 = val2 V0 := by
  simp only [ops, ops_part0, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v76) = concatenate S8x2 1 [⟨S8x1, (broadcastInDim S8x1 ![0] bcast_S8_S8x1_0 (select (andi (cmpi .ne (cmpi .slt (res_main_call4_v4 (launchContents m c)) (broadcastInDim S8 ![] bcast_S_S8 (constantI S_ 32 0#32))) (broadcastInDim S8 ![] bcast_S_S8 (cmpi .slt (res_main_call4_v2 (launchContents m c)) (constantI S_ 32 0#32)))) (cmpi .ne (res_main_call4_v4 (launchContents m c)) (broadcastInDim S8 ![] bcast_S_S8 (constantI S_ 32 0#32)))) (addi (res_main_call4_v4 (launchContents m c)) (broadcastInDim S8 ![] bcast_S_S8 (res_main_call4_v2 (launchContents m c)))) (res_main_call4_v4 (launchContents m c))))⟩, ⟨S8x1, (broadcastInDim S8x1 ![0] bcast_S8_S8x1_0 (select (andi (cmpi .ne (signi (res_main_v71 (launchContents m c))) (broadcastInDim S8 ![] bcast_S_S8 (signi (res_main_call5_v0 (launchContents m c))))) (cmpi .ne (Host.remsi (res_main_v71 (launchContents m c)) (broadcastInDim S8 ![] bcast_S_S8 (res_main_call5_v0 (launchContents m c)))) (broadcastInDim S8 ![] bcast_S_S8 (constantI S_ 32 0#32)))) (subi (res_main_call5_v2 (launchContents m c)) (broadcastInDim S8 ![] bcast_S_S8 (constantI S_ 32 1#32))) (res_main_call5_v2 (launchContents m c))))⟩] concatenates_S8x1_S8x1_S8x2_d1
      ∧ r.2.mem ((c.tc : Thread nD τ).loc main_v91) = Host.gather gather_S8x50176_S8x2_S8_n_01_n_n_01_1_11 (res_main_v60 (launchContents m c)) (concatenate S8x2 1 [⟨S8x1, (broadcastInDim S8x1 ![0] bcast_S8_S8x1_0 (select (cmpi .slt (res_main_v77 (launchContents m c)) (broadcastInDim S8 ![] bcast_S_S8 (constantI S_ 32 0#32))) (addi (res_main_v77 (launchContents m c)) (broadcastInDim S8 ![] bcast_S_S8 (constantI S_ 32 8#32))) (res_main_v77 (launchContents m c))))⟩, ⟨S8x1, (broadcastInDim S8x1 ![0] bcast_S8_S8x1_0 (select (cmpi .slt (res_main_v71 (launchContents m c)) (broadcastInDim S8 ![] bcast_S_S8 (constantI S_ 32 0#32))) (addi (res_main_v71 (launchContents m c)) (broadcastInDim S8 ![] bcast_S_S8 (constantI S_ 32 50176#32))) (res_main_v71 (launchContents m c))))⟩] concatenates_S8x1_S8x1_S8x2_d1)
      ∧ r.2.mem ((c.tc : Thread nD τ).loc main_v61) = Host.exp (res_main_v60 (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v76).trans ((congrFun (after_ops (launchContents m c)) (Proc.devRef .tc main_v76)).trans (val2_main_v76 (launchContents m c))),
      (h c main_v91).trans ((congrFun (after_ops (launchContents m c)) (Proc.devRef .tc main_v91)).trans (val2_main_v91 (launchContents m c))),
      (h c main_v61).trans ((congrFun (after_ops (launchContents m c)) (Proc.devRef .tc main_v61)).trans (val2_main_v61 (launchContents m c))),
      (h c main_arg0).trans ((congrFun (after_ops (launchContents m c)) (Proc.devRef .tc main_arg0)).trans (val2_main_arg0 (launchContents m c))),
      (h c main_arg1).trans ((congrFun (after_ops (launchContents m c)) (Proc.devRef .tc main_arg1)).trans (val2_main_arg1 (launchContents m c))),
      (h c main_arg2).trans ((congrFun (after_ops (launchContents m c)) (Proc.devRef .tc main_arg2)).trans (val2_main_arg2 (launchContents m c)))⟩)
    (run_seq scopedRefs_eq scopedSems_eq defs main (fun _ => ops) main_eq (fun _ => ops_sub) m ρ fun _ => ops_fresh)

end Cert.ReferenceIdeal.Value

end
-- ==== Proof.RefLogits.lean ====
module

public import proofs.«01_k».proof.Proof.RefRun
public import proofs.«01_k».proof.Proof.Answer
public import Idealize.ShloMosaic.Lib.Pipeline.ValueKit

@[expose] public section

set_option maxRecDepth 16384

/-! # What the reference's first half computes

The padded images, the convolution, and the log-softmax of each image's logits, read at an index. -/

noncomputable section

namespace Cert.RefLogits
open Cert.ReferenceIdeal Cert.ReferenceIdeal.Gen Cert.ReferenceIdeal.Value Cert.Conv Cert.Rows Cert.Answer
open Idealize.ShloMosaic Idealize.ShloMosaic.TcCoe Idealize.SL.Sem

variable (V0 : Valuation τ sig (Elt Ideal))

/-- The images. -/
def X (n : Fin 8) (ch : Fin 96) (h v : Fin 224) : EReal :=
  (V0 (Proc.devRef .tc main_arg0) : FVec Ideal S8x96x224x224 .f32) (ix4 n ch h v)
/-- The weights. -/
def W (ch : Fin 96) (i j : Fin 3) : EReal := (V0 (Proc.devRef .tc main_arg1) : FVec Ideal S1x96x3x3 .f32) (ix4 0 ch i j)
/-- The bias. -/
def B : EReal := (V0 (Proc.devRef .tc main_arg2) : FVec Ideal S1 .f32) (ix1 0)

theorem pad_at (x : FVec Ideal S8x96x224x224 .f32) (n : Fin 8) (ch : Fin 96) (r s : Fin 226) :
    (pad S8x96x226x226 ![0, 0, 1, 1] ![0, 0, 1, 1] ![0, 0, 0, 0] x (sitofp .f32 (constantI S_ 32 0#32))
      pads_S8x96x224x224_S8x96x226x226_000_000_110_110 h_S_ : FVec Ideal S8x96x226x226 .f32) (ix4 n ch r s) =
      padded (fun h v => x (ix4 n ch h v)) r s := by
  pointwise
  unfold padded
  have := r.isLt
  have := s.isLt
  split
  · rw [dif_pos (by omega)]
  · rw [dif_neg (by omega)]
    simp [FloatOps.sitofp]

theorem v0_at (n : Fin 8) (ch : Fin 96) (r s : Fin 226) :
    (res_main_v0 V0 : FVec Ideal S8x96x226x226 .f32) (ix4 n ch r s) = padded (X V0 n ch) r s :=
  pad_at _ n ch r s

/-- One offset's contribution as the reference spells it: the weights at the offset times the padded images from the
    offset on. -/
def slab (xp : FVec Ideal S8x96x226x226 .f32) (w : FVec Ideal S1x96x3x3 .f32) (i j : ℕ)
    (hw : S1x96x3x3.Slices ![0, 0, i, j] S1x96x1x1) (hx : S8x96x226x226.Slices ![0, 0, i, j] S8x96x224x224) :
    FVec Ideal S8x1x224x224 .f32 :=
  transpose S8x1x224x224 [1, 0, 2, 3] (Host.dotGeneral (F := Ideal) (φ₁ := .f32) (φ₂ := .f32) dot_S1x96_S8x96x224x224_S1x8x224x224_1_1_0_023_n_n none
    (shapeCast S1x96 (extractStridedSlice S1x96x1x1 ![0, 0, i, j] w hw) shapeCasts_S1x96x1x1_S1x96)
    (extractStridedSlice S8x96x224x224 ![0, 0, i, j] xp hx)) transposes_S1x8x224x224_S8x1x224x224_1_0_2_3

theorem product_at (a : FVec Ideal S1x96x1x1 .f32) (y : FVec Ideal S8x96x224x224 .f32) (n : Fin 8) (h v : Fin 224) :
    (transpose S8x1x224x224 [1, 0, 2, 3] (Host.dotGeneral (F := Ideal) (φ₁ := .f32) (φ₂ := .f32) dot_S1x96_S8x96x224x224_S1x8x224x224_1_1_0_023_n_n none
      (shapeCast S1x96 a shapeCasts_S1x96x1x1_S1x96) y) transposes_S1x8x224x224_S8x1x224x224_1_0_2_3
      : FVec Ideal S8x1x224x224 .f32) (ix4 n 0 h v) = ∑ ch, a (ix4 0 ch 0 0) * y (ix4 n ch h v) := by
  pointwise

theorem slab_at (i j : Fin 3) (hw hx) (n : Fin 8) (h v : Fin 224) :
    slab (res_main_v0 V0) (V0 (Proc.devRef .tc main_arg1)) i.val j.val hw hx (ix4 n 0 h v) = tap (X V0 n) (W V0) h v i j := by
  unfold slab tap
  rw [product_at]
  refine Finset.sum_congr rfl fun ch _ => congrArg₂ (· * ·) ?_ ?_
  · unfold W extractStridedSlice
    refine congrArg (V0 (Proc.devRef .tc main_arg1) : FVec Ideal S1x96x3x3 .f32) (funext fun a => Fin.ext ?_)
    fin_cases a
    · rfl
    · exact Nat.zero_add _
    · rfl
    · rfl
  · refine Eq.trans ?_ (v0_at V0 n ch ⟨i.val + h.val, by omega⟩ ⟨j.val + v.val, by omega⟩)
    unfold extractStridedSlice
    refine congrArg (res_main_v0 V0 : FVec Ideal S8x96x226x226 .f32) (funext fun a => Fin.ext ?_)
    fin_cases a
    · exact Nat.zero_add _
    · exact Nat.zero_add _
    · rfl
    · rfl

/-- The convolution as the reference spells it. -/
def conv (xp : FVec Ideal S8x96x226x226 .f32) (w : FVec Ideal S1x96x3x3 .f32) (b : FVec Ideal S1 .f32) :
    FVec Ideal S8x1x224x224 .f32 :=
  addf (addf (addf (addf (addf (addf (addf (addf (addf (addf (broadcastInDim S8x1x224x224 ![] bcast_S_S8x1x224x224 (constant S_ .f32 0x00000000#32))
    (slab xp w 0 0 slices_S1x96x3x3_S1x96x1x1_0_0_0_0 slices_S8x96x226x226_S8x96x224x224_0_0_0_0))
    (slab xp w 0 1 slices_S1x96x3x3_S1x96x1x1_0_0_0_1 slices_S8x96x226x226_S8x96x224x224_0_0_0_1))
    (slab xp w 0 2 slices_S1x96x3x3_S1x96x1x1_0_0_0_2 slices_S8x96x226x226_S8x96x224x224_0_0_0_2))
    (slab xp w 1 0 slices_S1x96x3x3_S1x96x1x1_0_0_1_0 slices_S8x96x226x226_S8x96x224x224_0_0_1_0))
    (slab xp w 1 1 slices_S1x96x3x3_S1x96x1x1_0_0_1_1 slices_S8x96x226x226_S8x96x224x224_0_0_1_1))
    (slab xp w 1 2 slices_S1x96x3x3_S1x96x1x1_0_0_1_2 slices_S8x96x226x226_S8x96x224x224_0_0_1_2))
    (slab xp w 2 0 slices_S1x96x3x3_S1x96x1x1_0_0_2_0 slices_S8x96x226x226_S8x96x224x224_0_0_2_0))
    (slab xp w 2 1 slices_S1x96x3x3_S1x96x1x1_0_0_2_1 slices_S8x96x226x226_S8x96x224x224_0_0_2_1))
    (slab xp w 2 2 slices_S1x96x3x3_S1x96x1x1_0_0_2_2 slices_S8x96x226x226_S8x96x224x224_0_0_2_2))
    (broadcastInDim S8x1x224x224 ![0, 1, 2, 3] bcast_S1x1x1x1_S8x1x224x224_0_1_2_3 (shapeCast S1x1x1x1 b shapeCasts_S1_S1x1x1x1))

theorem v58_eq : res_main_v58 V0 =
    conv (res_main_v0 V0) (V0 (Proc.devRef .tc main_arg1)) (V0 (Proc.devRef .tc main_arg2)) := rfl

theorem conv_at (xp : FVec Ideal S8x96x226x226 .f32) (w : FVec Ideal S1x96x3x3 .f32) (b : FVec Ideal S1 .f32)
    (n : Fin 8) (h v : Fin 224) : conv xp w b (ix4 n 0 h v) =
      slab xp w 0 0 slices_S1x96x3x3_S1x96x1x1_0_0_0_0 slices_S8x96x226x226_S8x96x224x224_0_0_0_0 (ix4 n 0 h v) +
      slab xp w 0 1 slices_S1x96x3x3_S1x96x1x1_0_0_0_1 slices_S8x96x226x226_S8x96x224x224_0_0_0_1 (ix4 n 0 h v) +
      slab xp w 0 2 slices_S1x96x3x3_S1x96x1x1_0_0_0_2 slices_S8x96x226x226_S8x96x224x224_0_0_0_2 (ix4 n 0 h v) +
      slab xp w 1 0 slices_S1x96x3x3_S1x96x1x1_0_0_1_0 slices_S8x96x226x226_S8x96x224x224_0_0_1_0 (ix4 n 0 h v) +
      slab xp w 1 1 slices_S1x96x3x3_S1x96x1x1_0_0_1_1 slices_S8x96x226x226_S8x96x224x224_0_0_1_1 (ix4 n 0 h v) +
      slab xp w 1 2 slices_S1x96x3x3_S1x96x1x1_0_0_1_2 slices_S8x96x226x226_S8x96x224x224_0_0_1_2 (ix4 n 0 h v) +
      slab xp w 2 0 slices_S1x96x3x3_S1x96x1x1_0_0_2_0 slices_S8x96x226x226_S8x96x224x224_0_0_2_0 (ix4 n 0 h v) +
      slab xp w 2 1 slices_S1x96x3x3_S1x96x1x1_0_0_2_1 slices_S8x96x226x226_S8x96x224x224_0_0_2_1 (ix4 n 0 h v) +
      slab xp w 2 2 slices_S1x96x3x3_S1x96x1x1_0_0_2_2 slices_S8x96x226x226_S8x96x224x224_0_0_2_2 (ix4 n 0 h v) + b (ix1 0) := by
  pointwise [conv]

theorem v58_at (n : Fin 8) (h v : Fin 224) :
    (res_main_v58 V0 : FVec Ideal S8x1x224x224 .f32) (ix4 n 0 h v) = pixel (X V0 n) (W V0) (B V0) h v := by
  unfold pixel
  rw [← slab_at V0 0 0 slices_S1x96x3x3_S1x96x1x1_0_0_0_0 slices_S8x96x226x226_S8x96x224x224_0_0_0_0 n h v,
    ← slab_at V0 0 1 slices_S1x96x3x3_S1x96x1x1_0_0_0_1 slices_S8x96x226x226_S8x96x224x224_0_0_0_1 n h v,
    ← slab_at V0 0 2 slices_S1x96x3x3_S1x96x1x1_0_0_0_2 slices_S8x96x226x226_S8x96x224x224_0_0_0_2 n h v,
    ← slab_at V0 1 0 slices_S1x96x3x3_S1x96x1x1_0_0_1_0 slices_S8x96x226x226_S8x96x224x224_0_0_1_0 n h v,
    ← slab_at V0 1 1 slices_S1x96x3x3_S1x96x1x1_0_0_1_1 slices_S8x96x226x226_S8x96x224x224_0_0_1_1 n h v,
    ← slab_at V0 1 2 slices_S1x96x3x3_S1x96x1x1_0_0_1_2 slices_S8x96x226x226_S8x96x224x224_0_0_1_2 n h v,
    ← slab_at V0 2 0 slices_S1x96x3x3_S1x96x1x1_0_0_2_0 slices_S8x96x226x226_S8x96x224x224_0_0_2_0 n h v,
    ← slab_at V0 2 1 slices_S1x96x3x3_S1x96x1x1_0_0_2_1 slices_S8x96x226x226_S8x96x224x224_0_0_2_1 n h v,
    ← slab_at V0 2 2 slices_S1x96x3x3_S1x96x1x1_0_0_2_2 slices_S8x96x226x226_S8x96x224x224_0_0_2_2 n h v]
  exact conv_at _ _ _ n h v

theorem flat_at (a : FVec Ideal S8x1x224x224 .f32) (n : Fin 8) (k : Fin 50176) :
    shapeCast S8x50176 a shapeCasts_S8x1x224x224_S8x50176 (ix2 n k) = a (ix4 n 0 (flat.symm k).1 (flat.symm k).2) := by
  pointwise
  rfl

theorem v59_at (n : Fin 8) (k : Fin 50176) :
    (res_main_v59 V0 : FVec Ideal S8x50176 .f32) (ix2 n k) = logits (X V0) (W V0) (B V0) n k :=
  (flat_at (res_main_v58 V0) n k).trans (v58_at V0 n _ _)

/-- The log-softmax of every row, as the reference spells it. -/
def soft (x : FVec Ideal S8x50176 .f32) : FVec Ideal S8x50176 .f32 :=
  have y : FVec Ideal S8x50176 .f32 := subf x (broadcastInDim S8x50176 ![0, 1] bcast_S8x1_S8x50176_0_1 (broadcastInDim S8x1 ![0] bcast_S8_S8x1_0
    (maximumf (broadcastInDim S8 ![] bcast_S_S8 (constant S_ .f32 0xFF800000#32))
      (Host.reduce FloatOps.maximumf x (constant S_ .f32 0xFF800000#32) reducesTo_S8x50176_S8_d1 h_S_))))
  subf y (broadcastInDim S8x50176 ![0, 1] bcast_S8x1_S8x50176_0_1 (Host.log (broadcastInDim S8x1 ![0] bcast_S8_S8x1_0
    (Host.reduceAdd (Host.exp y) (constant S_ .f32 0x00000000#32) reducesTo_S8x50176_S8_d1 h_S_))))

theorem soft_at (x : FVec Ideal S8x50176 .f32) (n : Fin 8) (k : Fin 50176) :
    soft x (ix2 n k) = logSoft (fun k => x (ix2 n k)) k := by
  pointwise [soft]
  rw [neg_inf_bits, bot_sup_eq]
  rfl

theorem v60_at (n : Fin 8) (k : Fin 50176) :
    (res_main_v60 V0 : FVec Ideal S8x50176 .f32) (ix2 n k) = logSoft (logits (X V0) (W V0) (B V0) n) k := by
  refine (soft_at (res_main_v59 V0) n k).trans ?_
  exact congrArg (fun y => logSoft y k) (funext fun k => v59_at V0 n k)

end Cert.RefLogits
-- ==== Proof.RefArgmax.lean ====
module

public import proofs.«01_k».proof.Proof.Gen.ReferenceIdeal
public import proofs.«01_k».proof.Proof.Rows
public import Idealize.ShloMosaic.PureOps.Ideal.Laws
public import Idealize.ShloMosaic.Lib.Pipeline.ValueKit

@[expose] public section

set_option maxRecDepth 16384

/-! # The reference's argmax of a row

The reference's argmax folds a reducer over the pairs (score, position) of a row in increasing order of position. It
ends at the word of the first position that holds the largest score. -/

noncomputable section

namespace Cert.RefArgmax
open Cert.ReferenceIdeal Cert.ReferenceIdeal.Gen Cert.Rows
open Idealize.ShloMosaic

/-- The reducer on two pairs: whether the left value is larger, or equal at the smaller word, decides. -/
theorem reducer_eq (a b : EReal × BitVec 32) :
    reducer_argmax_f32_i32 (F := Ideal) a b =
      (if b.1 < a.1 then a.1 else b.1, if b.1 < a.1 ∨ (a.1 = b.1 ∧ a.2.slt b.2) then a.2 else b.2) := by
  have gt : FloatOps.cmpf (F := Ideal) (φ := .f32) .ogt a.1 b.1 = BitVec.ofBool (decide (b.1 < a.1)) := rfl
  have ne : FloatOps.cmpf (F := Ideal) (φ := .f32) .une a.1 a.1 = 0#1 := by simp [FloatOps.cmpf, Ideal.cmp]
  have eq : FloatOps.cmpf (F := Ideal) (φ := .f32) .oeq a.1 b.1 = BitVec.ofBool (decide (a.1 = b.1)) := rfl
  have lt : IntOp.cmpi .slt a.2 b.2 = BitVec.ofBool (a.2.slt b.2) := rfl
  unfold reducer_argmax_f32_i32
  simp only [gt, ne, eq, lt]
  by_cases h : b.1 < a.1 <;> by_cases he : a.1 = b.1 <;> cases a.2.slt b.2 <;>
    simp [h, he, IntOp.ori, IntOp.andi, Scalar.select]

/-- The reducer is a step of the fold that looks for the first largest entry. -/
theorem isStep {n : ℕ} (hn : n ≤ 2 ^ 31) (v : Fin n → EReal) : IsStep v (reducer_argmax_f32_i32 (F := Ideal)) where
  keep i j hij h := by
    rw [reducer_eq]
    rcases h.lt_or_eq with h | h
    · simp [h]
    · simp [h, word_slt hn, hij]
  move i j _ h := by
    rw [reducer_eq]
    simp [h.not_gt, h.ne]

/-- The fold's initial pair gives way to the first position. -/
theorem start_step (x : EReal) : reducer_argmax_f32_i32 (F := Ideal) (⊥, 0#32) (x, 0#32) = (x, 0#32) := by
  rw [reducer_eq]
  simp

/-- The reducer's fold over a whole row ends at the first position of the largest entry. -/
theorem fold_row {n : ℕ} (hn : n + 1 ≤ 2 ^ 31) (v : Fin (n + 1) → EReal) :
    ((List.finRange (n + 1)).map fun k => (v k, word k)).foldl (reducer_argmax_f32_i32 (F := Ideal)) (⊥, 0#32) =
      (top v, word (first v)) :=
  foldl_first v (isStep hn v) _ (start_step (v 0))

/-- The flat index of row `n`'s position `k`. -/
def at_ (n : Fin 8) (k : Fin 50176) : Fin S8x50176.numel := S8x50176.rowMajor (ix2 n k)

theorem at_val (n : Fin 8) (k : Fin 50176) : (at_ n k).val = n.val * 50176 + k.val := by
  unfold at_
  rw [Shape.rowMajor_val_two]
  rfl

/-- The flat indices lying over row `n`, in increasing order, are those of its positions in order. -/
theorem over_row (n : Fin 8) :
    ((List.finRange S8x50176.numel).filter fun i => reducesTo_S8x50176_S8_d1.drop (S8x50176.rowMajor.symm i) = ix1 n) =
      (List.finRange 50176).map (at_ n) := by
  have hl : ((List.finRange S8x50176.numel).filter
      fun i => reducesTo_S8x50176_S8_d1.drop (S8x50176.rowMajor.symm i) = ix1 n).Pairwise (· < ·) :=
    (List.pairwise_lt_finRange _).filter _
  have hr : ((List.finRange 50176).map (at_ n)).Pairwise (· < ·) :=
    List.pairwise_map.2 ((List.pairwise_lt_finRange _).imp fun {a b} h => by
      rw [Fin.lt_def] at h ⊢
      rw [at_val, at_val]
      omega)
  refine List.Perm.eq_of_pairwise (fun a b _ _ h₁ h₂ => absurd h₁ h₂.asymm) hl hr ?_
  refine (List.perm_ext_iff_of_nodup (hl.imp fun h => h.ne) (hr.imp fun h => h.ne)).2 fun i => ?_
  simp only [List.mem_filter, List.mem_finRange, true_and, decide_eq_true_eq, List.mem_map]
  have hv : (reducesTo_S8x50176_S8_d1.drop (S8x50176.rowMajor.symm i) 0 : ℕ) = S8x50176.rowMajor.symm i 0 :=
    Shape.ReducesTo.drop_apply_val _ _ 0
  constructor
  · intro h
    rw [h] at hv
    refine ⟨S8x50176.rowMajor.symm i 1, (Equiv.apply_eq_iff_eq_symm_apply _).2 (funext fun c => ?_)⟩
    match c with
    | ⟨0, _⟩ => exact Fin.ext hv
    | ⟨1, _⟩ => rfl
  · rintro ⟨k, rfl⟩
    funext c
    match c with
    | ⟨0, _⟩ =>
      refine Fin.ext (hv.trans ?_)
      unfold at_
      rw [Equiv.symm_apply_apply]
      rfl

/-- The argmax of row `n` of the scores `s` is the word of its first largest position. -/
theorem argmax_at (s : FVec Ideal S8x50176 .f32) (n : Fin 8) :
    (Host.argReduce reducer_argmax_f32_i32 s (iotaInDim S8x50176 32 1) (constant S_ .f32 0xFF800000#32)
      (constantI S_ 32 0#32) reducesTo_S8x50176_S8_d1 h_S_ (ix1 n)).2 =
      word (first (n := 50175) fun k => s (ix2 n k)) := by
  rw [Ideal.argReduce_eq_reduce2, Host.reduce2_eq_foldl_fiber]
  have hf : Host.argReduceFiber s (iotaInDim S8x50176 32 1) reducesTo_S8x50176_S8_d1 (ix1 n) =
      (List.finRange 50176).map fun k => ((fun k => s (ix2 n k)) k, word k) := by
    unfold Host.argReduceFiber
    rw [over_row, List.map_map]
    refine List.map_congr_left fun k _ => ?_
    show (s (S8x50176.rowMajor.symm (at_ n k)), iotaInDim S8x50176 32 1 (S8x50176.rowMajor.symm (at_ n k))) = _
    unfold at_
    rw [Equiv.symm_apply_apply]
    rfl
  rw [hf]
  have hb : (constant S_ .f32 0xFF800000#32 : FVec Ideal S_ .f32) (Shape.Idx.first h_S_) = (⊥ : EReal) := neg_inf_bits
  rw [hb]
  have hz : (constantI S_ 32 0#32 : IVec S_ 32) (Shape.Idx.first h_S_) = 0#32 := rfl
  rw [hz]
  generalize (fun k => s (ix2 n k)) = v
  have h := fold_row (n := 50175) (by norm_num) v
  rw [show List.finRange (50175 + 1) = List.finRange 50176 from rfl] at h
  rw [h]

end Cert.RefArgmax
-- ==== Proof.RefWords.lean ====
module

public import proofs.«01_k».proof.Proof.Gen.ReferenceIdeal
public import proofs.«01_k».proof.Proof.Rows
public import Idealize.ShloMosaic.Lib.Routing.Words
public import Idealize.ShloMosaic.Lib.Pointwise

@[expose] public section

set_option maxRecDepth 16384

/-! # The reference's arithmetic on drawn positions

Column and row of a drawn position, and the reading of an array at a drawn position of each row: on words that hold
numbers below 50176. -/

noncomputable section

namespace Cert.RefWords
open Cert.ReferenceIdeal Cert.ReferenceIdeal.Gen Cert.Rows
open Idealize.ShloMosaic

/-- Two columns side by side. -/
abbrev beside (a b : IVec S8 32) : IVec S8x2 32 :=
  concatenate S8x2 1 [⟨S8x1, (broadcastInDim S8x1 ![0] bcast_S8_S8x1_0 a : IVec S8x1 32)⟩, ⟨S8x1, (broadcastInDim S8x1 ![0] bcast_S8_S8x1_0 b : IVec S8x1 32)⟩] concatenates_S8x1_S8x1_S8x2_d1

theorem beside_at (a b : IVec S8 32) (n : Fin 8) (d : Fin 2) :
    beside a b (ix2 n d) = if d = 0 then a (ix1 n) else b (ix1 n) := by
  unfold beside
  pointwise
  match d with
  | ⟨0, _⟩ => rfl
  | ⟨1, _⟩ => rfl

/-- A word that holds a small number is no less than zero, so that adding an extent to negative words leaves it. -/
theorem wrap_at (p e : IVec S8 32) (n : Fin 8) {N : ℕ} (hN : N ≤ 2 ^ 31) (k : Fin N) (hp : p (ix1 n) = word k) :
    (select (cmpi .slt p (broadcastInDim S8 ![] bcast_S_S8 (constantI S_ 32 0#32))) e p) (ix1 n) = word k := by
  have h0 : IntOp.cmpi .slt (word k) 0#32 = 0#1 := by
    have h := word_slt hN k ⟨0, by have := k.isLt; omega⟩
    simp only [IntOp.cmpi]
    exact congrArg BitVec.ofBool (h.trans (decide_eq_false (by rw [Fin.lt_def]; simp)))
  show Scalar.select (IntOp.cmpi .slt (p (ix1 n)) 0#32) (e (ix1 n)) (p (ix1 n)) = word k
  rw [hp, h0]
  rfl

/-- Reading an 8 × 50176 array at the pairs (row word, position word). -/
theorem gather_at (x : FVec Ideal S8x50176 .f32) (idx : IVec S8x2 32) (n : Fin 8) (a : Fin 8) (k : Fin 50176)
    (ha : idx (ix2 n 0) = word a) (hk : idx (ix2 n 1) = word k) :
    Host.gather gather_S8x50176_S8x2_S8_n_01_n_n_01_1_11 x idx (ix1 n) = x (ix2 a k) := by
  unfold Host.gather
  refine congrArg x (funext fun c => Fin.ext ?_)
  match c with
  | ⟨0, _⟩ =>
    have e : gather_S8x50176_S8x2_S8_n_01_n_n_01_1_11.siIdx (ix1 n) ⟨0, by decide⟩ = ix2 n 0 := by
      funext b
      match b with
      | ⟨0, _⟩ => rfl
      | ⟨1, _⟩ => rfl
    show min (idx (gather_S8x50176_S8x2_S8_n_01_n_n_01_1_11.siIdx (ix1 n) ⟨0, by decide⟩)).toInt.toNat 7 + 0 + 0 = a.val
    rw [e, ha, word_toInt (by norm_num)]
    have := a.isLt
    omega
  | ⟨1, _⟩ =>
    have e : gather_S8x50176_S8x2_S8_n_01_n_n_01_1_11.siIdx (ix1 n) ⟨1, by decide⟩ = ix2 n 1 := by
      funext b
      match b with
      | ⟨0, _⟩ => rfl
      | ⟨1, _⟩ => rfl
    show min (idx (gather_S8x50176_S8x2_S8_n_01_n_n_01_1_11.siIdx (ix1 n) ⟨1, by decide⟩)).toInt.toNat 50175 + 0 + 0 = k.val
    rw [e, hk, word_toInt (by norm_num)]
    have := k.isLt
    omega

/-- Column and row of the drawn positions, by the remainder and the floor division that jnp prints. -/
theorem columns_at (p : IVec S8 32) (n : Fin 8) (k : Fin 50176) (hp : p (ix1 n) = word k) :
    Routing.pyRem bcast_S_S8 p (id (constantI S_ 32 224#32)) (ix1 n) = BitVec.ofNat 32 (k.val % 224) :=
  Routing.pyRem_ap bcast_S_S8 p _ _ hp rfl (by have := k.isLt; omega) (by norm_num) (by norm_num)

theorem rows_at (p : IVec S8 32) (n : Fin 8) (k : Fin 50176) (hp : p (ix1 n) = word k) :
    Routing.pyDiv bcast_S_S8 p (id (constantI S_ 32 224#32)) (ix1 n) = BitVec.ofNat 32 (k.val / 224) :=
  Routing.pyDiv_ap bcast_S_S8 p _ _ hp rfl (by have := k.isLt; omega) (by norm_num) (by norm_num)

/-- The two side by side. -/
theorem columns_rows_at (p : IVec S8 32) (n : Fin 8) (d : Fin 2) (k : Fin 50176) (hp : p (ix1 n) = word k) :
    beside (Routing.pyRem bcast_S_S8 p (id (constantI S_ 32 224#32)))
      (Routing.pyDiv bcast_S_S8 p (id (constantI S_ 32 224#32))) (ix2 n d) =
      if d = 0 then BitVec.ofNat 32 (k.val % 224) else BitVec.ofNat 32 (k.val / 224) := by
  rw [beside_at, columns_at p n k hp, rows_at p n k hp]

/-- The entry of each row at the position drawn for it, as jnp prints the indexing: row numbers beside positions, each
    with its extent added where it is negative. -/
theorem take_at (x : FVec Ideal S8x50176 .f32) (p : IVec S8 32) (n : Fin 8) (k : Fin 50176) (hp : p (ix1 n) = word k) :
    Host.gather gather_S8x50176_S8x2_S8_n_01_n_n_01_1_11 x
      (beside
        (select (cmpi .slt (iotaInDim S8 32 0) (broadcastInDim S8 ![] bcast_S_S8 (constantI S_ 32 0#32)))
          (addi (iotaInDim S8 32 0) (broadcastInDim S8 ![] bcast_S_S8 (constantI S_ 32 8#32))) (iotaInDim S8 32 0))
        (select (cmpi .slt p (broadcastInDim S8 ![] bcast_S_S8 (constantI S_ 32 0#32)))
          (addi p (broadcastInDim S8 ![] bcast_S_S8 (constantI S_ 32 50176#32))) p)) (ix1 n) = x (ix2 n k) := by
  refine gather_at x _ n n k ?_ ?_
  · rw [beside_at]
    exact wrap_at (iotaInDim S8 32 0) _ n (N := 8) (by norm_num) n rfl
  · rw [beside_at]
    exact wrap_at p _ n (by norm_num) k hp

end Cert.RefWords
-- ==== Proof.RefDraw.lean ====
module

public import proofs.«01_k».proof.Proof.RefLogits
public import proofs.«01_k».proof.Proof.RefArgmax
public import proofs.«01_k».proof.Proof.RefWords

@[expose] public section

set_option maxRecDepth 16384

/-! # What the reference returns

The reference's three results at an index: the drawn position's column and row, its log-probability, and the
probabilities. -/

noncomputable section

namespace Cert.RefDraw
open Cert.ReferenceIdeal Cert.ReferenceIdeal.Gen Cert.ReferenceIdeal.Value Cert.Rows Cert.Answer Cert.RefLogits
open Cert.RefArgmax Cert.RefWords
open Idealize.ShloMosaic Idealize.ShloMosaic.TcCoe Idealize.SL.Sem

variable (V0 : Valuation τ sig (Elt Ideal))

/-- The noise. -/
def G (n : Fin 8) (k : Fin 50176) : EReal := (noise V0 : FVec Ideal S8x50176 .f32) (ix2 n k)

/-- The argmax of noise `g` and log-probabilities `l`, added. -/
theorem largest_at (g l : FVec Ideal S8x50176 .f32) (n : Fin 8) :
    (Host.argReduce reducer_argmax_f32_i32 (addf g l) (iotaInDim S8x50176 32 1) (constant S_ .f32 0xFF800000#32)
      (constantI S_ 32 0#32) reducesTo_S8x50176_S8_d1 h_S_ (ix1 n)).2 =
      word (first (n := 50175) fun k => l (ix2 n k) + g (ix2 n k)) :=
  (argmax_at (addf g l) n).trans
    (congrArg (fun v : Fin 50176 → EReal => word (first (n := 50175) v)) (funext fun k => add_comm (g (ix2 n k)) (l (ix2 n k))))

/-- The position the reference draws for image `n`. -/
theorem v71_at (n : Fin 8) : (res_main_v71 V0 : IVec S8 32) (ix1 n) = word (draw (X V0) (W V0) (B V0) (G V0) n) := by
  unfold res_main_v71 draw G
  generalize (noise V0 : FVec Ideal S8x50176 .f32) = g
  exact (largest_at g (res_main_v60 V0) n).trans
    (congrArg (fun v : Fin 50176 → EReal => word (first (n := 50175) v))
      (funext fun k => congrArg (fun y : EReal => y + g (ix2 n k)) (v60_at V0 n k)))

/-- Column and row of the drawn positions. -/
theorem v76 : val2 V0 (Proc.devRef .tc main_v76) =
    (fun i => place (X V0) (W V0) (B V0) (G V0) (i 0) (i 1) : IVec S8x2 32) := by
  refine (val2_main_v76 V0).trans ?_
  funext i
  obtain ⟨n, d, rfl⟩ : ∃ n d, i = ix2 n d := ⟨i 0, i 1, eq_ix2 i⟩
  exact columns_rows_at (res_main_v71 V0 : IVec S8 32) n d _ (v71_at V0 n)

/-- The log-probabilities of the drawn positions. -/
theorem v91 : val2 V0 (Proc.devRef .tc main_v91) =
    (fun i => logSoft (logits (X V0) (W V0) (B V0) (i 0)) (draw (X V0) (W V0) (B V0) (G V0) (i 0)) : FVec Ideal S8 .f32) := by
  refine (val2_main_v91 V0).trans ?_
  funext i
  obtain ⟨n, rfl⟩ : ∃ n, i = ix1 n := ⟨i 0, eq_ix1 i⟩
  exact (take_at (res_main_v60 V0 : FVec Ideal S8x50176 .f32) (res_main_v71 V0 : IVec S8 32) n _ (v71_at V0 n)).trans
    (v60_at V0 n _)

/-- The probabilities. -/
theorem v61 : val2 V0 (Proc.devRef .tc main_v61) =
    (fun i => Ideal.exp (logSoft (logits (X V0) (W V0) (B V0) (i 0)) (i 1)) : FVec Ideal S8x50176 .f32) := by
  refine (val2_main_v61 V0).trans ?_
  funext i
  obtain ⟨n, k, rfl⟩ : ∃ n k, i = ix2 n k := ⟨i 0, i 1, eq_ix2 i⟩
  exact congrArg Ideal.exp (v60_at V0 n k)

end Cert.RefDraw
-- ==== Proof.RefResults.lean ====
module

public import proofs.«01_k».proof.Proof.RefDraw
public import Idealize.ShloMosaic.Lib.Quiescent

@[expose] public section

set_option maxRecDepth 16384

/-! # The reference's run

Every run of the reference ends with its three results at the answer, its arguments unchanged and its semaphores at
zero. -/

noncomputable section

namespace Cert.RefResults
open Cert.ReferenceIdeal Cert.ReferenceIdeal.Gen Cert.ReferenceIdeal.Value Cert.Rows Cert.Answer
open Idealize.ShloMosaic Idealize.ShloMosaic.TcCoe Idealize.SL.Sem Idealize.ShloMosaic.StableHlo

variable (m : (ℓ : Loc nD τ sig) → Buf (Elt Ideal) ℓ) (ρ : Dev nD → PrngReg)

/-- The images, the weights, the bias and the noise a device starts from. -/
abbrev X (c : Dev nD) := RefLogits.X (launchContents m c)
abbrev W (c : Dev nD) := RefLogits.W (launchContents m c)
abbrev B (c : Dev nD) := RefLogits.B (launchContents m c)
abbrev G (c : Dev nD) := RefDraw.G (launchContents m c)

theorem runs : θ_run (defs (F := Ideal)) (onTc (τ := τ) (main (F := Ideal))) ⟨m, fun _ => 0, ρ⟩ fun r => ∀ c : Dev nD,
    r.2.mem ((c.tc : Thread nD τ).loc main_v76) =
        (fun i => place (X m c) (W m c) (B m c) (G m c) (i 0) (i 1) : IVec S8x2 32)
    ∧ r.2.mem ((c.tc : Thread nD τ).loc main_v91) =
        (fun i => logSoft (logits (X m c) (W m c) (B m c) (i 0)) (draw (X m c) (W m c) (B m c) (G m c) (i 0)) : FVec Ideal S8 .f32)
    ∧ r.2.mem ((c.tc : Thread nD τ).loc main_v61) =
        (fun i => Ideal.exp (logSoft (logits (X m c) (W m c) (B m c) (i 0)) (i 1)) : FVec Ideal S8x50176 .f32)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c =>
    ⟨(h c).1.trans ((val2_main_v76 _).symm.trans (RefDraw.v76 _)),
     (h c).2.1.trans ((val2_main_v91 _).symm.trans (RefDraw.v91 _)),
     (h c).2.2.1.trans ((val2_main_v61 _).symm.trans (RefDraw.v61 _)), (h c).2.2.2⟩)
    (Value.run m ρ)

theorem frame : θ_run (defs (F := Ideal)) (onTc (τ := τ) (main (F := Ideal))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0 :=
  (θ_run defs _ _).mono (fun r h => ⟨fun c => (h c).2.2.2, sem_eq_zero_of_no_sems rfl r.2⟩) (Value.run m ρ)

end Cert.RefResults
-- ==== Proof.lean ====
/- The claim, put together: the three frames, and the equality of the kernel's results with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal

public import proofs.«01_k».proof.Proof.KernelRun
public import proofs.«01_k».proof.Proof.RefResults

public import Idealize.ShloMosaic.Adequacy
public import Idealize.ShloMosaic.Init

@[expose] public section

noncomputable section

namespace Cert.Proof

open Idealize.ShloMosaic Idealize.SL.Sem Cert.Kernel

/-- The two programs read the same three arguments, and draw the same noise. -/
theorem same_arguments (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) =
      m ((c.tc : Thread KernelIdeal.nD KernelIdeal.τ).loc KernelIdeal.main_arg0))
    (h1 : m' ((c.tc : Thread ReferenceIdeal.nD ReferenceIdeal.τ).loc ReferenceIdeal.main_arg1) =
      m ((c.tc : Thread KernelIdeal.nD KernelIdeal.τ).loc KernelIdeal.main_arg1))
    (h2 : m' ((c.tc : Thread ReferenceIdeal.nD ReferenceIdeal.τ).loc ReferenceIdeal.main_arg2) =
      m ((c.tc : Thread KernelIdeal.nD KernelIdeal.τ).loc KernelIdeal.main_arg2)) :
    RefResults.X m' c = Arrays.X m c ∧ RefResults.W m' c = Arrays.W m c ∧ RefResults.B m' c = Arrays.B m c ∧
      RefResults.G m' c = Arrays.G m c :=
  ⟨funext fun n => funext fun ch => funext fun h => funext fun v => congrFun h0 (ix4 n ch h v),
   funext fun ch => funext fun i => funext fun j => congrFun h1 (ix4 0 ch i j), congrFun h2 (ix1 0),
   funext fun n => funext fun k => congrFun (Noise.noise_same (F := Ideal) (fun b => m (c, b)) _).symm (ix2 n k)⟩

/-- Kernel and reference end with equal results: both end at the answer. -/
theorem algebraic : algebraic_KernelIdeal_ReferenceIdeal (hKernelIdeal := Cert.KernelIdeal.Gen.facts)
    (hReferenceIdeal := Cert.ReferenceIdeal.Gen.facts) := by
  intro m g m' g' _ hm
  refine ⟨_, _, _, Arrays.runs m g, (θ_run ReferenceIdeal.defs _ _).mono (fun r h c => ?_) (RefResults.runs m' g')⟩
  obtain ⟨hX, hW, hB, hG⟩ := same_arguments m m' c (hm c).1 (hm c).2.1 (hm c).2.2
  have hc := h c
  rw [hX, hW, hB, hG] at hc
  exact hc

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => RefResults.frame m ρ, trivial, algebraic⟩

end Cert.Proof

end
